-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "gelu_cubic" .bf16 0x3D37#16 ((12003091 / 268435456 : ℝ) : EReal)
  ∧ IdealRules.named_const.Statement Cert.KernelIdeal.κ "gelu_scale" .bf16 0x3F4C#16 ((6693141 / 8388608 : ℝ) : EReal)
  ∧ IdealRules.named_const.Statement Cert.KernelIdeal.κ "norm_floor_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x1024 : Shape := ⟨3, ![8, 4096, 1024]⟩
abbrev S1024 : Shape := ⟨1, ![1024]⟩
abbrev S_ : Shape := ⟨0, ![]⟩
abbrev S1 : Shape := ⟨1, ![1]⟩
abbrev S8 : Shape := ⟨1, ![8]⟩
abbrev S1x1024 : Shape := ⟨2, ![1, 1024]⟩
abbrev S5x1024 : Shape := ⟨2, ![5, 1024]⟩
abbrev S1024x1 : Shape := ⟨2, ![1024, 1]⟩
abbrev S1024x2 : Shape := ⟨2, ![1024, 2]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x1024x1024 : Shape := ⟨3, ![1, 1024, 1024]⟩
abbrev S1024x1024 : Shape := ⟨2, ![1024, 1024]⟩
abbrev S1x1 : Shape := ⟨2, ![1, 1]⟩
abbrev S64x1024 : Shape := ⟨2, ![64, 1024]⟩

abbrev nBuf : Space → Nat
  | .hbm => 121
  | .vmem => 9
  | .smem => 1
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S1, .f32⟩
  | .hbm, ⟨93, _⟩ => ⟨S1, .f32⟩
  | .hbm, ⟨94, _⟩ => ⟨S1, .f32⟩
  | .hbm, ⟨95, _⟩ => ⟨S1, .f32⟩
  | .hbm, ⟨96, _⟩ => ⟨S1, .f32⟩
  | .hbm, ⟨97, _⟩ => ⟨S1, .f32⟩
  | .hbm, ⟨98, _⟩ => ⟨S1, .f32⟩
  | .hbm, ⟨99, _⟩ => ⟨S1, .f32⟩
  | .hbm, ⟨100, _⟩ => ⟨S8, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S1x1024, .f32⟩
  | .hbm, ⟨105, _⟩ => ⟨S1x1024, .f32⟩
  | .hbm, ⟨106, _⟩ => ⟨S5x1024, .f32⟩
  | .hbm, ⟨107, _⟩ => ⟨S_, .f32⟩
  | .hbm, ⟨108, _⟩ => ⟨S1024, .f32⟩
  | .hbm, ⟨109, _⟩ => ⟨S1024x1, .f32⟩
  | .hbm, ⟨110, _⟩ => ⟨S1024x1, .f32⟩
  | .hbm, ⟨111, _⟩ => ⟨S1024x2, .f32⟩
  | .hbm, ⟨112, _⟩ => ⟨S1024x2, .bf16⟩
  | .hbm, ⟨113, _⟩ => ⟨S64, .i32⟩
  | .hbm, ⟨114, _⟩ => ⟨S1x64, .i32⟩
  | .hbm, ⟨115, _⟩ => ⟨S64x1, .i32⟩
  | .hbm, ⟨116, _⟩ => ⟨S64x64, .i32⟩
  | .hbm, ⟨117, _⟩ => ⟨S64x64, .i32⟩
  | .hbm, ⟨118, _⟩ => ⟨S64x64, .i1⟩
  | .hbm, ⟨119, _⟩ => ⟨S64x64, .bf16⟩
  | .hbm, ⟨120, _⟩ => ⟨S8x4096x1024, .f32⟩
  | .local _ .vmem, ⟨0, _⟩ => ⟨S5x1024, .f32⟩
  | .local _ .vmem, ⟨1, _⟩ => ⟨S1024x2, .bf16⟩
  | .local _ .vmem, ⟨2, _⟩ => ⟨S64x64, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024, .f32⟩
  | .local _ .vmem, ⟨8, _⟩ => ⟨S1x1024, .f32⟩
  | .local _ .smem, ⟨0, _⟩ => ⟨S8, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_v1 : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_v2 : Ref sig .tc := ⟨.hbm, 36, rfl⟩
abbrev main_call2_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_v3 : Ref sig .tc := ⟨.hbm, 47, rfl⟩
abbrev main_call3_cst : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_v4 : Ref sig .tc := ⟨.hbm, 58, rfl⟩
abbrev main_call4_cst : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_v6 : Ref sig .tc := ⟨.hbm, 66, rfl⟩
abbrev main_call4_v7 : Ref sig .tc := ⟨.hbm, 67, rfl⟩
abbrev main_call4_v8 : Ref sig .tc := ⟨.hbm, 68, rfl⟩
abbrev main_v5 : Ref sig .tc := ⟨.hbm, 69, rfl⟩
abbrev main_call5_cst : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_v5 : Ref sig .tc := ⟨.hbm, 76, rfl⟩
abbrev main_call5_v6 : Ref sig .tc := ⟨.hbm, 77, rfl⟩
abbrev main_call5_v7 : Ref sig .tc := ⟨.hbm, 78, rfl⟩
abbrev main_call5_v8 : Ref sig .tc := ⟨.hbm, 79, rfl⟩
abbrev main_v6 : Ref sig .tc := ⟨.hbm, 80, rfl⟩
abbrev main_call6_cst : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_v6 : Ref sig .tc := ⟨.hbm, 88, rfl⟩
abbrev main_call6_v7 : Ref sig .tc := ⟨.hbm, 89, rfl⟩
abbrev main_call6_v8 : Ref sig .tc := ⟨.hbm, 90, rfl⟩
abbrev main_v7 : Ref sig .tc := ⟨.hbm, 91, rfl⟩
abbrev main_v8 : Ref sig .tc := ⟨.hbm, 92, rfl⟩
abbrev main_v9 : Ref sig .tc := ⟨.hbm, 93, rfl⟩
abbrev main_v10 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_cst : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev main_v30 : Ref sig .tc := ⟨.hbm, 115, rfl⟩
abbrev main_v31 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S5x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "gelu_cubic" => some ((12003091 / 268435456 : ℝ) : EReal)
  | "gelu_scale" => some ((6693141 / 8388608 : ℝ) : EReal)
  | "norm_floor_sq" => some ((5316911940649 / 5316911983139663491615228241121378304 : ℝ) : EReal)
  | _ => none
-- ==== ReferenceIdeal.lean ====
abbrev S8x4096x1024 : Shape := ⟨3, ![8, 4096, 1024]⟩
abbrev S1024 : Shape := ⟨1, ![1024]⟩
abbrev S_ : Shape := ⟨0, ![]⟩
abbrev S1x1x1024 : Shape := ⟨3, ![1, 1, 1024]⟩
abbrev S8x4096 : Shape := ⟨2, ![8, 4096]⟩
abbrev S8x1x1024 : Shape := ⟨3, ![8, 1, 1024]⟩
abbrev S8x4095x1024 : Shape := ⟨3, ![8, 4095, 1024]⟩
abbrev S4096 : Shape := ⟨1, ![4096]⟩
abbrev S1x4096x1 : Shape := ⟨3, ![1, 4096, 1]⟩
abbrev S1 : Shape := ⟨1, ![1]⟩
abbrev S8x1024 : Shape := ⟨2, ![8, 1024]⟩
abbrev S8x4096x1 : Shape := ⟨3, ![8, 4096, 1]⟩

abbrev nBuf : Space → Nat
  | .hbm => 262
  | .vmem => 0
  | .smem => 0
  | _ => 0

abbrev hbmTy0_0 (i : Nat) : BufTy := match i % 128 with
  | 0 => ⟨S8x4096x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .i1⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .i1⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .i1⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .i1⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .i1⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .i1⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S8x4096x1024, .f32⟩
  | 94 => ⟨S8x4096x1024, .f32⟩
  | 95 => ⟨S_, .f32⟩
  | 96 => ⟨S8x4096x1024, .f32⟩
  | 97 => ⟨S8x4096x1024, .f32⟩
  | 98 => ⟨S8x4096x1024, .f32⟩
  | 99 => ⟨S8x4096x1024, .f32⟩
  | 100 => ⟨S8x4096x1024, .f32⟩
  | 101 => ⟨S_, .f32⟩
  | 102 => ⟨S8x4096x1024, .f32⟩
  | 103 => ⟨S8x4096x1024, .f32⟩
  | 104 => ⟨S8x4096x1024, .f32⟩
  | 105 => ⟨S_, .f32⟩
  | 106 => ⟨S8x4096x1024, .f32⟩
  | 107 => ⟨S8x4096x1024, .f32⟩
  | 108 => ⟨S8x4096x1024, .f32⟩
  | 109 => ⟨S1024, .f32⟩
  | 110 => ⟨S1024, .f32⟩
  | 111 => ⟨S_, .f32⟩
  | 112 => ⟨S_, .f32⟩
  | 113 => ⟨S1024, .f32⟩
  | 114 => ⟨S1024, .f32⟩
  | 115 => ⟨S1024, .f32⟩
  | 116 => ⟨S1x1x1024, .f32⟩
  | 117 => ⟨S8x4096x1024, .f32⟩
  | 118 => ⟨S8x4096x1024, .f32⟩
  | 119 => ⟨S_, .f32⟩
  | 120 => ⟨S1024, .f32⟩
  | 121 => ⟨S1024, .f32⟩
  | 122 => ⟨S1x1x1024, .f32⟩
  | 123 => ⟨S8x4096x1024, .f32⟩
  | 124 => ⟨S8x4096x1024, .f32⟩
  | 125 => ⟨S8x4096x1024, .f32⟩
  | 126 => ⟨S_, .f32⟩
  | 127 => ⟨S8x4096, .f32⟩
  | _ => ⟨S8x4096x1024, .f32⟩

abbrev hbmTy0_1 (i : Nat) : BufTy := match i % 128 with
  | 0 => ⟨S_, .f32⟩
  | 1 => ⟨S8x4096, .f32⟩
  | 2 => ⟨S8x4096, .f32⟩
  | 3 => ⟨S8x4096, .f32⟩
  | 4 => ⟨S8x4096, .f32⟩
  | 5 => ⟨S8x4096, .f32⟩
  | 6 => ⟨S_, .f32⟩
  | 7 => ⟨S_, .f32⟩
  | 8 => ⟨S1024, .f32⟩
  | 9 => ⟨S1024, .f32⟩
  | 10 => ⟨S1024, .f32⟩
  | 11 => ⟨S_, .f32⟩
  | 12 => ⟨S_, .f32⟩
  | 13 => ⟨S1024, .f32⟩
  | 14 => ⟨S1024, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S8x4096x1024, .f32⟩
  | 28 => ⟨S8x4096x1024, .f32⟩
  | 29 => ⟨S_, .f32⟩
  | 30 => ⟨S_, .f32⟩
  | 31 => ⟨S8x4096x1024, .f32⟩
  | 32 => ⟨S_, .f32⟩
  | 33 => ⟨S8x1x1024, .f32⟩
  | 34 => ⟨S8x4095x1024, .f32⟩
  | 35 => ⟨S8x4096x1024, .f32⟩
  | 36 => ⟨S8x4095x1024, .f32⟩
  | 37 => ⟨S8x4096x1024, .f32⟩
  | 38 => ⟨S4096, .f32⟩
  | 39 => ⟨S_, .f32⟩
  | 40 => ⟨S_, .f32⟩
  | 41 => ⟨S4096, .f32⟩
  | 42 => ⟨S4096, .f32⟩
  | 43 => ⟨S1x4096x1, .f32⟩
  | 44 => ⟨S8x4096x1024, .f32⟩
  | 45 => ⟨S8x4096x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S_, .f32⟩
  | 51 => ⟨S_, .f32⟩
  | 52 => ⟨S8x4096x1024, .f32⟩
  | 53 => ⟨S8x4096x1024, .f32⟩
  | 54 => ⟨S8x4096x1024, .f32⟩
  | 55 => ⟨S8x4096x1024, .f32⟩
  | 56 => ⟨S8x4096x1024, .f32⟩
  | 57 => ⟨S_, .i32⟩
  | 58 => ⟨S1, .i32⟩
  | 59 => ⟨S_, .f32⟩
  | 60 => ⟨S8x1024, .f32⟩
  | 61 => ⟨S8x4096x1024, .f32⟩
  | 62 => ⟨S8x4096x1024, .f32⟩
  | 63 => ⟨S_, .f32⟩
  | 64 => ⟨S8x4096, .f32⟩
  | 65 => ⟨S_, .f32⟩
  | 66 => ⟨S8x4096, .f32⟩
  | 67 => ⟨S8x4096, .f32⟩
  | 68 => ⟨S8x4096, .f32⟩
  | 69 => ⟨S8x4096, .f32⟩
  | 70 => ⟨S8x4096, .f32⟩
  | 71 => ⟨S_, .f32⟩
  | 72 => ⟨S_, .f32⟩
  | 73 => ⟨S8x4096, .f32⟩
  | 74 => ⟨S8x4096, .f32⟩
  | 75 => ⟨S8x4096, .f32⟩
  | 76 => ⟨S8x4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S8x4096, .f32⟩
  | 84 => ⟨S8x4096, .f32⟩
  | 85 => ⟨S8x4096, .f32⟩
  | 86 => ⟨S8x4096, .f32⟩
  | 87 => ⟨S8x4096, .f32⟩
  | 88 => ⟨S8x4096, .f32⟩
  | 89 => ⟨S8x4096, .f32⟩
  | 90 => ⟨S8x4096x1024, .f32⟩
  | 91 => ⟨S_, .f32⟩
  | 92 => ⟨S8x4096, .f32⟩
  | 93 => ⟨S8x4096x1, .f32⟩
  | 94 => ⟨S8x4096x1, .f32⟩
  | 95 => ⟨S_, .f32⟩
  | 96 => ⟨S8x4096x1, .f32⟩
  | 97 => ⟨S8x4096x1, .f32⟩
  | 98 => ⟨S8x4096x1024, .f32⟩
  | 99 => ⟨S8x4096x1024, .f32⟩
  | 100 => ⟨S1024, .f32⟩
  | 101 => ⟨S_, .f32⟩
  | 102 => ⟨S_, .f32⟩
  | 103 => ⟨S_, .f32⟩
  | 104 => ⟨S_, .f32⟩
  | 105 => ⟨S_, .f32⟩
  | 106 => ⟨S1024, .f32⟩
  | 107 => ⟨S1024, .f32⟩
  | 108 => ⟨S1x1x1024, .f32⟩
  | 109 => ⟨S8x4096x1024, .f32⟩
  | 110 => ⟨S8x4096x1024, .f32⟩
  | 111 => ⟨S_, .f32⟩
  | 112 => ⟨S8x4096, .f32⟩
  | 113 => ⟨S_, .f32⟩
  | 114 => ⟨S_, .f32⟩
  | 115 => ⟨S_, .f32⟩
  | 116 => ⟨S8x4096, .f32⟩
  | 117 => ⟨S8x4096, .f32⟩
  | 118 => ⟨S_, .f32⟩
  | 119 => ⟨S8x4096, .f32⟩
  | 120 => ⟨S8x4096, .f32⟩
  | 121 => ⟨S_, .f32⟩
  | 122 => ⟨S8x4096, .f32⟩
  | 123 => ⟨S8x4096, .f32⟩
  | 124 => ⟨S8x4096, .f32⟩
  | 125 => ⟨S8x4096, .f32⟩
  | 126 => ⟨S8x4096, .f32⟩
  | 127 => ⟨S_, .f32⟩
  | _ => ⟨S8x4096x1024, .f32⟩

abbrev hbmTy0_2 (i : Nat) : BufTy := match i % 128 with
  | 0 => ⟨S8x4096, .f32⟩
  | 1 => ⟨S8x4096, .f32⟩
  | 2 => ⟨S8x4096, .f32⟩
  | 3 => ⟨S8x4096x1, .f32⟩
  | 4 => ⟨S8x4096x1024, .f32⟩
  | 5 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_v1 : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_v2 : Ref sig .tc := ⟨.hbm, 36, rfl⟩
abbrev main_call2_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_v3 : Ref sig .tc := ⟨.hbm, 47, rfl⟩
abbrev main_call3_cst : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_v4 : Ref sig .tc := ⟨.hbm, 58, rfl⟩
abbrev main_call4_cst : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_v6 : Ref sig .tc := ⟨.hbm, 66, rfl⟩
abbrev main_call4_v7 : Ref sig .tc := ⟨.hbm, 67, rfl⟩
abbrev main_call4_v8 : Ref sig .tc := ⟨.hbm, 68, rfl⟩
abbrev main_v5 : Ref sig .tc := ⟨.hbm, 69, rfl⟩
abbrev main_call5_cst : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_v5 : Ref sig .tc := ⟨.hbm, 76, rfl⟩
abbrev main_call5_v6 : Ref sig .tc := ⟨.hbm, 77, rfl⟩
abbrev main_call5_v7 : Ref sig .tc := ⟨.hbm, 78, rfl⟩
abbrev main_call5_v8 : Ref sig .tc := ⟨.hbm, 79, rfl⟩
abbrev main_v6 : Ref sig .tc := ⟨.hbm, 80, rfl⟩
abbrev main_call6_cst : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_v6 : Ref sig .tc := ⟨.hbm, 88, rfl⟩
abbrev main_call6_v7 : Ref sig .tc := ⟨.hbm, 89, rfl⟩
abbrev main_call6_v8 : Ref sig .tc := ⟨.hbm, 90, rfl⟩
abbrev main_v7 : Ref sig .tc := ⟨.hbm, 91, rfl⟩
abbrev main_cst : Ref sig .tc := ⟨.hbm, 92, rfl⟩
abbrev main_v8 : Ref sig .tc := ⟨.hbm, 93, rfl⟩
abbrev main_v9 : Ref sig .tc := ⟨.hbm, 94, rfl⟩
abbrev main_cst_0 : Ref sig .tc := ⟨.hbm, 95, rfl⟩
abbrev main_v10 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_cst_1 : Ref sig .tc := ⟨.hbm, 101, rfl⟩
abbrev main_v15 : Ref sig .tc := ⟨.hbm, 102, rfl⟩
abbrev main_v16 : Ref sig .tc := ⟨.hbm, 103, rfl⟩
abbrev main_v17 : Ref sig .tc := ⟨.hbm, 104, rfl⟩
abbrev main_cst_2 : Ref sig .tc := ⟨.hbm, 105, rfl⟩
abbrev main_v18 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_v22 : Ref sig .tc := ⟨.hbm, 110, rfl⟩
abbrev main_cst_3 : Ref sig .tc := ⟨.hbm, 111, rfl⟩
abbrev main_call7_v0 : Ref sig .tc := ⟨.hbm, 112, rfl⟩
abbrev main_call7_v1 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_cst_4 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_cst_5 : Ref sig .tc := ⟨.hbm, 126, rfl⟩
abbrev main_v34 : Ref sig .tc := ⟨.hbm, 127, rfl⟩
abbrev main_cst_6 : Ref sig .tc := ⟨.hbm, 128, rfl⟩
abbrev main_v35 : Ref sig .tc := ⟨.hbm, 129, rfl⟩
abbrev main_v36 : Ref sig .tc := ⟨.hbm, 130, rfl⟩
abbrev main_v37 : Ref sig .tc := ⟨.hbm, 131, rfl⟩
abbrev main_v38 : Ref sig .tc := ⟨.hbm, 132, rfl⟩
abbrev main_v39 : Ref sig .tc := ⟨.hbm, 133, rfl⟩
abbrev main_cst_7 : Ref sig .tc := ⟨.hbm, 134, rfl⟩
abbrev main_call8_v0 : Ref sig .tc := ⟨.hbm, 135, rfl⟩
abbrev main_call8_v1 : Ref sig .tc := ⟨.hbm, 136, rfl⟩
abbrev main_v40 : Ref sig .tc := ⟨.hbm, 137, rfl⟩
abbrev main_v41 : Ref sig .tc := ⟨.hbm, 138, rfl⟩
abbrev main_cst_8 : Ref sig .tc := ⟨.hbm, 139, rfl⟩
abbrev main_call9_v0 : Ref sig .tc := ⟨.hbm, 140, rfl⟩
abbrev main_call9_v1 : Ref sig .tc := ⟨.hbm, 141, rfl⟩
abbrev main_v42 : Ref sig .tc := ⟨.hbm, 142, rfl⟩
abbrev main_cst_9 : Ref sig .tc := ⟨.hbm, 143, rfl⟩
abbrev main_v43 : Ref sig .tc := ⟨.hbm, 144, rfl⟩
abbrev main_cst_10 : Ref sig .tc := ⟨.hbm, 145, rfl⟩
abbrev main_v44 : Ref sig .tc := ⟨.hbm, 146, rfl⟩
abbrev main_cst_11 : Ref sig .tc := ⟨.hbm, 147, rfl⟩
abbrev main_v45 : Ref sig .tc := ⟨.hbm, 148, rfl⟩
abbrev main_call10_cst : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_call11_call0_cst : Ref sig .tc := ⟨.hbm, 153, rfl⟩
abbrev main_call11_call0_v0 : Ref sig .tc := ⟨.hbm, 154, rfl⟩
abbrev main_v49 : Ref sig .tc := ⟨.hbm, 155, rfl⟩
abbrev main_v50 : Ref sig .tc := ⟨.hbm, 156, rfl⟩
abbrev main_call12_call0_cst : Ref sig .tc := ⟨.hbm, 157, rfl⟩
abbrev main_call12_call0_v0 : Ref sig .tc := ⟨.hbm, 158, rfl⟩
abbrev main_v51 : Ref sig .tc := ⟨.hbm, 159, rfl⟩
abbrev main_cst_12 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_cst_13 : Ref sig .tc := ⟨.hbm, 167, rfl⟩
abbrev main_call13_v0 : Ref sig .tc := ⟨.hbm, 168, rfl⟩
abbrev main_call13_v1 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_cst_14 : Ref sig .tc := ⟨.hbm, 178, rfl⟩
abbrev main_call14_v0 : Ref sig .tc := ⟨.hbm, 179, rfl⟩
abbrev main_call14_v1 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_c : Ref sig .tc := ⟨.hbm, 185, rfl⟩
abbrev main_v70 : Ref sig .tc := ⟨.hbm, 186, rfl⟩
abbrev main_cst_15 : Ref sig .tc := ⟨.hbm, 187, rfl⟩
abbrev main_v71 : Ref sig .tc := ⟨.hbm, 188, rfl⟩
abbrev main_v72 : Ref sig .tc := ⟨.hbm, 189, rfl⟩
abbrev main_v73 : Ref sig .tc := ⟨.hbm, 190, rfl⟩
abbrev main_cst_16 : Ref sig .tc := ⟨.hbm, 191, rfl⟩
abbrev main_v74 : Ref sig .tc := ⟨.hbm, 192, rfl⟩
abbrev main_cst_17 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_cst_18 : Ref sig .tc := ⟨.hbm, 199, rfl⟩
abbrev main_call15_v0 : Ref sig .tc := ⟨.hbm, 200, rfl⟩
abbrev main_call15_v1 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_cst_19 : Ref sig .tc := ⟨.hbm, 205, rfl⟩
abbrev main_call16_v0 : Ref sig .tc := ⟨.hbm, 206, rfl⟩
abbrev main_v83 : Ref sig .tc := ⟨.hbm, 207, rfl⟩
abbrev main_v84 : Ref sig .tc := ⟨.hbm, 208, rfl⟩
abbrev main_cst_20 : Ref sig .tc := ⟨.hbm, 209, rfl⟩
abbrev main_call17_v0 : Ref sig .tc := ⟨.hbm, 210, rfl⟩
abbrev main_call17_v1 : Ref sig .tc := ⟨.hbm, 211, rfl⟩
abbrev main_v85 : Ref sig .tc := ⟨.hbm, 212, rfl⟩
abbrev main_v86 : Ref sig .tc := ⟨.hbm, 213, rfl⟩
abbrev main_v87 : Ref sig .tc := ⟨.hbm, 214, rfl⟩
abbrev main_v88 : Ref sig .tc := ⟨.hbm, 215, rfl⟩
abbrev main_v89 : Ref sig .tc := ⟨.hbm, 216, rfl⟩
abbrev main_v90 : Ref sig .tc := ⟨.hbm, 217, rfl⟩
abbrev main_call18_v0 : Ref sig .tc := ⟨.hbm, 218, rfl⟩
abbrev main_call18_cst : Ref sig .tc := ⟨.hbm, 219, rfl⟩
abbrev main_call18_v1 : Ref sig .tc := ⟨.hbm, 220, rfl⟩
abbrev main_call18_v2 : Ref sig .tc := ⟨.hbm, 221, rfl⟩
abbrev main_v91 : Ref sig .tc := ⟨.hbm, 222, rfl⟩
abbrev main_cst_21 : Ref sig .tc := ⟨.hbm, 223, rfl⟩
abbrev main_v92 : Ref sig .tc := ⟨.hbm, 224, rfl⟩
abbrev main_v93 : Ref sig .tc := ⟨.hbm, 225, rfl⟩
abbrev main_v94 : Ref sig .tc := ⟨.hbm, 226, rfl⟩
abbrev main_v95 : Ref sig .tc := ⟨.hbm, 227, rfl⟩
abbrev main_call19_v0 : Ref sig .tc := ⟨.hbm, 228, rfl⟩
abbrev main_call19_cst : Ref sig .tc := ⟨.hbm, 229, rfl⟩
abbrev main_call19_v1 : Ref sig .tc := ⟨.hbm, 230, rfl⟩
abbrev main_v96 : Ref sig .tc := ⟨.hbm, 231, rfl⟩
abbrev main_cst_22 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_cst_23 : Ref sig .tc := ⟨.hbm, 239, rfl⟩
abbrev main_v103 : Ref sig .tc := ⟨.hbm, 240, rfl⟩
abbrev main_cst_24 : Ref sig .tc := ⟨.hbm, 241, rfl⟩
abbrev main_cst_25 : Ref sig .tc := ⟨.hbm, 242, rfl⟩
abbrev main_call20_v0 : Ref sig .tc := ⟨.hbm, 243, rfl⟩
abbrev main_call20_v1 : Ref sig .tc := ⟨.hbm, 244, rfl⟩
abbrev main_call20_v2 : Ref sig .tc := ⟨.hbm, 245, rfl⟩
abbrev main_call20_v3 : Ref sig .tc := ⟨.hbm, 246, rfl⟩
abbrev main_call20_v4 : Ref sig .tc := ⟨.hbm, 247, rfl⟩
abbrev main_v104 : Ref sig .tc := ⟨.hbm, 248, rfl⟩
abbrev main_v105 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_cst_26 : Ref sig .tc := ⟨.hbm, 255, rfl⟩
abbrev main_v111 : Ref sig .tc := ⟨.hbm, 256, rfl⟩
abbrev main_v112 : Ref sig .tc := ⟨.hbm, 257, rfl⟩
abbrev main_v113 : Ref sig .tc := ⟨.hbm, 258, rfl⟩
abbrev main_v114 : Ref sig .tc := ⟨.hbm, 259, rfl⟩
abbrev main_v115 : Ref sig .tc := ⟨.hbm, 260, rfl⟩
abbrev main_v116 : Ref sig .tc := ⟨.hbm, 261, rfl⟩

abbrev nD : Nat := 1
abbrev τ : Topo := Topo.v7x

variable {F : FTy → Type} [FloatOps F]
-- ==== Proof.Block.lean ====
/-
  What one grid point of the kernel computes, named piece by piece.

  A point handles 1024 rows of one sequence as sixteen chunks of 64 rows. Each chunk needs, per row, the sum of all
  earlier rows and the sum of their squares: a product with the strictly lower triangle gives the part inside the
  chunk, and a running row (the carry) gives the part before it. The definitions below are stated once for a chunk
  `h`, and `tile` puts the point's output together.
-/
module

public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

variable {F : FTy → Type} [FloatOps F] [Named F]

/-- The 64 rows of chunk `h` lie inside the 1024. -/
theorem slices_chunk (h : Fin 16) : S1024x1024.Slices ![64 * h.val, 0] S64x1024 :=
  ⟨rfl, fun a => by have := h.isLt; fin_cases a <;> simp <;> omega⟩

/-- So does chunk `h`'s last row. -/
theorem slices_last (h : Fin 16) : S1024x1024.Slices ![64 * h.val + 63, 0] S1x1024 :=
  ⟨rfl, fun a => by have := h.isLt; fin_cases a <;> simp <;> omega⟩

/-- Scalar `k` of the eight. -/
abbrev scal (x : Vec F S8 .f32) (k : ℕ) (inb : ∀ a, (![k] : Fin 1 → Nat) a + S1.size a ≤ S8.size a) : Elt F .f32 :=
  View.ld x (Rect.unit (s := S8) ![k] S1.size inb) (Shape.Idx.first (numel1_S1.symm ▸ Nat.one_pos))

/-- Row `k` of the five statistics rows. -/
abbrev stat (x : Vec F S5x1024 .f32) (k : ℕ) (inb : ∀ a, (![k, 0] : Fin 2 → Nat) a + S1x1024.size a ≤ S5x1024.size a) :
    Vec F S1x1024 .f32 :=
  View.ld x (Rect.unit (s := S5x1024) ![k, 0] S1x1024.size inb)

/-- The rows of chunk `h`. -/
def rows (v : FVec F S1024x1024 .bf16) (h : Fin 16) : FVec F S64x1024 .bf16 :=
  extractStridedSlice S64x1024 ![64 * h.val, 0] v (slices_chunk h)

/-- The triangle times chunk `h`: for each row the sum of the chunk's rows above it. -/
def above (tri : FVec F S64x64 .bf16) (v : FVec F S1024x1024 .bf16) (h : Fin 16) : FVec F S64x1024 .f32 :=
  matmul dot_S64x64_S64x1024_S64x1024_1_0_0_1_n_n none tri (rows v h) (constant S64x1024 .f32 0x00000000#32)

/-- The last row of chunk `h`. -/
def last (v : FVec F S1024x1024 .f32) (h : Fin 16) : FVec F S1x1024 .f32 :=
  extractStridedSlice S1x1024 ![64 * h.val + 63, 0] v (slices_last h)

/-- The last row of a chunk's triangle product. -/
def lastAbove (w : FVec F S64x1024 .f32) : FVec F S1x1024 .f32 :=
  extractStridedSlice S1x1024 ![63, 0] w slices_S64x1024_o63_0_S1x1024

/-- The carried row sums before chunk `n` (before the point's end at `n = 16`). -/
def sumBefore (x : FVec F S1024x1024 .f32) (xh : FVec F S1024x1024 .bf16) (tri : FVec F S64x64 .bf16) (c : FVec F S1x1024 .f32) :
    (n : ℕ) → n ≤ 16 → FVec F S1x1024 .f32
  | 0, _ => c
  | n + 1, hn => addf (sumBefore x xh tri c n (Nat.le_of_succ_le hn))
      (addf (lastAbove (above tri xh ⟨n, hn⟩)) (last x ⟨n, hn⟩))

/-- The carried row sums of squares before chunk `n`. -/
def sqBefore (x : FVec F S1024x1024 .f32) (xq : FVec F S1024x1024 .bf16) (tri : FVec F S64x64 .bf16) (c : FVec F S1x1024 .f32) :
    (n : ℕ) → n ≤ 16 → FVec F S1x1024 .f32
  | 0, _ => c
  | n + 1, hn => addf (sqBefore x xq tri c n (Nat.le_of_succ_le hn))
      (addf (lastAbove (above tri xq ⟨n, hn⟩)) (mulf (last x ⟨n, hn⟩) (last x ⟨n, hn⟩)))

/-- How many rows come before each row of chunk `h`, at least one, as a float column. -/
def count (j : BitVec 32) (h : Fin 16) : FVec F S64x1 .f32 :=
  sitofp .f32 (maxsi (addi (broadcast S64x1 (Scalar.addi (Scalar.muli j 1024#32) (BitVec.ofNat 32 (64 * h.val))))
    (iota .tc S64x1 32 [0] iota_S64x1_d0_w32)) (broadcast S64x1 1#32))

/-- The count in half precision, spread along the row. -/
def countH (j : BitVec 32) (h : Fin 16) : FVec F S64x1024 .bf16 :=
  broadcastTo S64x1024 (truncf .bf16 (count (F := F) j h) bitsLt_bf16_f32) broadcasts_S64x1_S64x1024

/-- The variance floor times the count twice, spread along the row. -/
def floorH (j : BitVec 32) (h : Fin 16) : FVec F S64x1024 .bf16 :=
  broadcastTo S64x1024 (truncf .bf16 (mulf (mulf (broadcast S64x1 (Scalar.ofBits .f32 0x38D1B717#32)) (count (F := F) j h))
    (count j h)) bitsLt_bf16_f32) broadcasts_S64x1_S64x1024

/-- A carried row plus the sums inside the chunk. -/
def prefixH (c : FVec F S1x1024 .f32) (w : FVec F S64x1024 .f32) : FVec F S64x1024 .bf16 :=
  truncf .bf16 (addf (broadcastTo S64x1024 c broadcasts_S1x1024_S64x1024) w) bitsLt_bf16_f32

/-- From the count, the rows, their prefix sums and prefix sums of squares: the absolute deviation of each entry from the
    mean of the rows before it, over their standard deviation. -/
def deviation (n e v p q : FVec F S64x1024 .bf16) : FVec F S64x1024 .bf16 :=
  absf (mulf (subf (mulf n v) p)
    (truncf .bf16 (rsqrt (extf .f32 (maximumf (subf (mulf n q) (mulf p p)) e) bitsLt_bf16_f32)) bitsLt_bf16_f32))

/-- The deviations of chunk `h`. -/
def chunk (j : BitVec 32) (x : FVec F S1024x1024 .f32) (xh xq : FVec F S1024x1024 .bf16) (tri : FVec F S64x64 .bf16)
    (c cq : FVec F S1x1024 .f32) (h : Fin 16) : FVec F S64x1024 .bf16 :=
  deviation (countH j h) (floorH j h) (rows xh h) (prefixH (sumBefore x xh tri c h.val h.isLt.le) (above tri xh h))
    (prefixH (sqBefore x xq tri cq h.val h.isLt.le) (above tri xq h))

/-- The sixteen chunks stacked. -/
def deviations (j : BitVec 32) (x : FVec F S1024x1024 .f32) (xh xq : FVec F S1024x1024 .bf16) (tri : FVec F S64x64 .bf16)
    (c cq : FVec F S1x1024 .f32) : FVec F S1024x1024 .bf16 :=
  concatenate S1024x1024 0 (List.ofFn fun h : Fin 16 => ⟨S64x1024, chunk j x xh xq tri c cq h⟩)
    concatenates_S64x1024_S64x1024_S64x1024_S64x1024_S64x1024_S64x1024_S64x1024_S64x1024_S64x1024_S64x1024_S64x1024_S64x1024_S64x1024_S64x1024_S64x1024_S64x1024_S1024x1024_d0

/-- What a point stores: row block `j`, the eight scalars, the statistics rows, the two projection columns, the
    triangle, the 1024 rows of `x`, and the two carried rows it starts from. -/
def tile (j : BitVec 32) (s : Vec F S8 .f32) (r : Vec F S5x1024 .f32) (pr : Vec F S1024x2 .bf16) (tri : Vec F S64x64 .bf16)
    (x : Vec F S1x1024x1024 .f32) (c cq : FVec F S1x1024 .f32) : FVec F S1x1024x1024 .f32 :=
  k0_pay1 (scal s 0 inb_S8_S1_0) (k0_pay9 x)
    (k0_pay13 (scal s 4 inb_S8_S1_4) (k0_pay12 (scal s 2 inb_S8_S1_2) (scal s 6 inb_S8_S1_6)
      (stat r 3 inb_S5x1024_S1x1024_3_0) (stat r 4 inb_S5x1024_S1x1024_4_0)))
    (k0_pay166 (k0_pay8 pr) (k0_pay9 x)) (k0_pay167 (k0_pay8 pr) (k0_pay9 x))
    (k0_pay168 (scal s 1 inb_S8_S1_1) (scal s 3 inb_S8_S1_3) (scal s 5 inb_S8_S1_5) (scal s 7 inb_S8_S1_7) (k0_pay8 pr)
      (k0_pay11 (k0_pay5 x) (k0_pay10 (stat r 0 inb_S5x1024_S1x1024_0_0)) (stat r 1 inb_S5x1024_S1x1024_1_0))
      (deviations j (k0_pay4 x) (k0_pay5 x) (k0_pay6 x) (k0_pay7 tri) c cq)
      (Scalar.muli j 1024#32) (iota .tc S1024x1 32 [0] iota_S1024x1_d0_w32))
    (k0_pay169 (stat r 2 inb_S5x1024_S1x1024_2_0)) (Named.named κ "norm_floor_sq" 0x179ABE15#32)

/-- The row sums a point hands on. -/
def sumNext (x : Vec F S1x1024x1024 .f32) (tri : Vec F S64x64 .bf16) (c : FVec F S1x1024 .f32) : FVec F S1x1024 .f32 :=
  shapeCast S1x1024 (sumBefore (k0_pay4 x) (k0_pay5 x) (k0_pay7 tri) c 16 le_rfl) shapeCasts_S1x1024_S1x1024

/-- The row sums of squares a point hands on. -/
def sqNext (x : Vec F S1x1024x1024 .f32) (tri : Vec F S64x64 .bf16) (c : FVec F S1x1024 .f32) : FVec F S1x1024 .f32 :=
  shapeCast S1x1024 (sqBefore (k0_pay4 x) (k0_pay6 x) (k0_pay7 tri) c 16 le_rfl) shapeCasts_S1x1024_S1x1024

end Cert.KernelIdeal.Block

end
-- ==== Proof.Case.lean ====
/-
  Each case of a grid point leaves what `Block` names. In case A (the first row block of a sequence) the carried rows
  are first set to zero; in case B they are what the point before handed on.
-/
module

public import proofs.«01_k».proof.Proof.Block

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

variable {F : FTy → Type} [FloatOps F] [Named F]

/-- The two-axis origin. -/
theorem origin2 : (![0, 0] : Fin 2 → Nat) = fun _ => 0 := funext fun a => by fin_cases a <;> rfl

/-- The three-axis origin. -/
theorem origin3 : (![0, 0, 0] : Fin 3 → Nat) = fun _ => 0 := funext fun a => by fin_cases a <;> rfl

/-- The first row block: the output is `tile` from zero carries. -/
theorem tile_A (c : Dev nD) (i : grid0.Coords) (arg2 : Memref sig .tc .smem S8 .f32) (harg2 : arg2.IsWhole) (arg3 : Memref sig .tc .vmem S5x1024 .f32) (harg3 : arg3.IsWhole) (arg4 : Memref sig .tc .vmem S1024x2 .bf16) (harg4 : arg4.IsWhole) (arg5 : Memref sig .tc .vmem S64x64 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S8 .f32) (x1 : Vec F S5x1024 .f32) (x2 : Vec F S1024x2 .bf16) (x3 : Vec F S64x64 .bf16) (x4 : Vec F S1x1024x1024 .f32) :
    out0_A_5 c i arg2 harg2 arg3 harg3 arg4 harg4 arg5 harg5 arg6 harg6 arg7 harg7 arg8 harg8 arg9 harg9 hc0 x0 x1 x2 x3 x4 = tile (BitVec.ofNat 32 (i 1).val) x0 x1 x2 x3 x4 k0_pay2 k0_pay3 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S1x1024x1024) origin3]
  simp only [View.readCov_unit_zero (S := S1x1024) _ origin2, View.readAt_eq_ld, harg2.read_unread, harg3.read_unread, harg4.read_unread, harg5.read_unread, harg6.read_unread,
    View.ld_unit_zero (S := S64x64) origin2, View.ld_unit_zero (S := S1024x2) origin2, View.ld_unit_zero (S := S1x1024x1024) origin3]
  rfl

/-- The first row block hands on its own row sums. -/
theorem sum_A (c : Dev nD) (i : grid0.Coords) (arg2 : Memref sig .tc .smem S8 .f32) (harg2 : arg2.IsWhole) (arg3 : Memref sig .tc .vmem S5x1024 .f32) (harg3 : arg3.IsWhole) (arg4 : Memref sig .tc .vmem S1024x2 .bf16) (harg4 : arg4.IsWhole) (arg5 : Memref sig .tc .vmem S64x64 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S8 .f32) (x1 : Vec F S5x1024 .f32) (x2 : Vec F S1024x2 .bf16) (x3 : Vec F S64x64 .bf16) (x4 : Vec F S1x1024x1024 .f32) :
    sout0_A_0 c i arg2 harg2 arg3 harg3 arg4 harg4 arg5 harg5 arg6 harg6 arg7 harg7 arg8 harg8 arg9 harg9 hc0 x0 x1 x2 x3 x4 = sumNext x4 x3 k0_pay2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1024) origin2]
  simp only [View.readCov_unit_zero (S := S1x1024) _ origin2, View.readAt_eq_ld, harg2.read_unread, harg3.read_unread, harg4.read_unread, harg5.read_unread, harg6.read_unread,
    View.ld_unit_zero (S := S64x64) origin2, View.ld_unit_zero (S := S1024x2) origin2, View.ld_unit_zero (S := S1x1024x1024) origin3]
  rfl

/-- The first row block hands on its own row sums of squares. -/
theorem sq_A (c : Dev nD) (i : grid0.Coords) (arg2 : Memref sig .tc .smem S8 .f32) (harg2 : arg2.IsWhole) (arg3 : Memref sig .tc .vmem S5x1024 .f32) (harg3 : arg3.IsWhole) (arg4 : Memref sig .tc .vmem S1024x2 .bf16) (harg4 : arg4.IsWhole) (arg5 : Memref sig .tc .vmem S64x64 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S8 .f32) (x1 : Vec F S5x1024 .f32) (x2 : Vec F S1024x2 .bf16) (x3 : Vec F S64x64 .bf16) (x4 : Vec F S1x1024x1024 .f32) :
    sout0_A_1 c i arg2 harg2 arg3 harg3 arg4 harg4 arg5 harg5 arg6 harg6 arg7 harg7 arg8 harg8 arg9 harg9 hc0 x0 x1 x2 x3 x4 = sqNext x4 x3 k0_pay3 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1024) origin2]
  simp only [View.readCov_unit_zero (S := S1x1024) _ origin2, View.readAt_eq_ld, harg2.read_unread, harg3.read_unread, harg4.read_unread, harg5.read_unread, harg6.read_unread,
    View.ld_unit_zero (S := S64x64) origin2, View.ld_unit_zero (S := S1024x2) origin2, View.ld_unit_zero (S := S1x1024x1024) origin3]
  rfl

/-- A later row block: the output is `tile` from the carries handed on. -/
theorem tile_B (c : Dev nD) (i : grid0.Coords) (arg2 : Memref sig .tc .smem S8 .f32) (harg2 : arg2.IsWhole) (arg3 : Memref sig .tc .vmem S5x1024 .f32) (harg3 : arg3.IsWhole) (arg4 : Memref sig .tc .vmem S1024x2 .bf16) (harg4 : arg4.IsWhole) (arg5 : Memref sig .tc .vmem S64x64 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S8 .f32) (x1 : Vec F S5x1024 .f32) (x2 : Vec F S1024x2 .bf16) (x3 : Vec F S64x64 .bf16) (x4 : Vec F S1x1024x1024 .f32) (xs0 xs1 : Vec F S1x1024 .f32) :
    out0_B_5 c i arg2 harg2 arg3 harg3 arg4 harg4 arg5 harg5 arg6 harg6 arg7 harg7 arg8 harg8 arg9 harg9 hc0 x0 x1 x2 x3 x4 xs0 xs1 = tile (BitVec.ofNat 32 (i 1).val) x0 x1 x2 x3 x4 xs0 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero (S := S1x1024x1024) origin3]
  simp only [harg8.read_unread, harg9.read_unread, View.ld_unit_zero (S := S1x1024) origin2, View.readAt_eq_ld, harg2.read_unread, harg3.read_unread, harg4.read_unread, harg5.read_unread, harg6.read_unread,
    View.ld_unit_zero (S := S64x64) origin2, View.ld_unit_zero (S := S1024x2) origin2, View.ld_unit_zero (S := S1x1024x1024) origin3]
  rfl

/-- A later row block hands on the carried row sums and its own. -/
theorem sum_B (c : Dev nD) (i : grid0.Coords) (arg2 : Memref sig .tc .smem S8 .f32) (harg2 : arg2.IsWhole) (arg3 : Memref sig .tc .vmem S5x1024 .f32) (harg3 : arg3.IsWhole) (arg4 : Memref sig .tc .vmem S1024x2 .bf16) (harg4 : arg4.IsWhole) (arg5 : Memref sig .tc .vmem S64x64 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S8 .f32) (x1 : Vec F S5x1024 .f32) (x2 : Vec F S1024x2 .bf16) (x3 : Vec F S64x64 .bf16) (x4 : Vec F S1x1024x1024 .f32) (xs0 xs1 : Vec F S1x1024 .f32) :
    sout0_B_0 c i arg2 harg2 arg3 harg3 arg4 harg4 arg5 harg5 arg6 harg6 arg7 harg7 arg8 harg8 arg9 harg9 hc0 x0 x1 x2 x3 x4 xs0 xs1 = sumNext x4 x3 xs0 := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero (S := S1x1024) origin2]
  simp only [harg8.read_unread, harg9.read_unread, View.ld_unit_zero (S := S1x1024) origin2, View.readAt_eq_ld, harg2.read_unread, harg3.read_unread, harg4.read_unread, harg5.read_unread, harg6.read_unread,
    View.ld_unit_zero (S := S64x64) origin2, View.ld_unit_zero (S := S1024x2) origin2, View.ld_unit_zero (S := S1x1024x1024) origin3]
  rfl

/-- A later row block hands on the carried row sums of squares and its own. -/
theorem sq_B (c : Dev nD) (i : grid0.Coords) (arg2 : Memref sig .tc .smem S8 .f32) (harg2 : arg2.IsWhole) (arg3 : Memref sig .tc .vmem S5x1024 .f32) (harg3 : arg3.IsWhole) (arg4 : Memref sig .tc .vmem S1024x2 .bf16) (harg4 : arg4.IsWhole) (arg5 : Memref sig .tc .vmem S64x64 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S8 .f32) (x1 : Vec F S5x1024 .f32) (x2 : Vec F S1024x2 .bf16) (x3 : Vec F S64x64 .bf16) (x4 : Vec F S1x1024x1024 .f32) (xs0 xs1 : Vec F S1x1024 .f32) :
    sout0_B_1 c i arg2 harg2 arg3 harg3 arg4 harg4 arg5 harg5 arg6 harg6 arg7 harg7 arg8 harg8 arg9 harg9 hc0 x0 x1 x2 x3 x4 xs0 xs1 = sqNext x4 x3 xs1 := by
  unfold sout0_B_1
  rw [View.read_writes_eq_canon _ _ _ (scover0_B_1 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero (S := S1x1024) origin2]
  simp only [harg8.read_unread, harg9.read_unread, View.ld_unit_zero (S := S1x1024) origin2, View.readAt_eq_ld, harg2.read_unread, harg3.read_unread, harg4.read_unread, harg5.read_unread, harg6.read_unread,
    View.ld_unit_zero (S := S64x64) origin2, View.ld_unit_zero (S := S1024x2) origin2, View.ld_unit_zero (S := S1x1024x1024) origin3]
  rfl

end Cert.KernelIdeal.Block

end
-- ==== Proof.Rows.lean ====
/-
  The named pieces of one grid point over the extended reals, read at a row and a column.

  The carried row before chunk `n` is the row it starts from plus the first `64 n` rows; with the triangle product each
  row of a chunk gets the sum of all rows above it. So entry `(q, d)` of the stacked deviations needs only the count,
  the entry, and the two prefix sums over the rows before `q`.
-/
module

public import proofs.«01_k».proof.Proof.Block
public import Idealize.ShloMosaic.Lib.Pointwise

@[expose] public section

set_option maxRecDepth 16384

noncomputable section

namespace Cert.KernelIdeal.Block

open Cert.KernelIdeal Cert.KernelIdeal.Gen Idealize.ShloMosaic

/-- Column `d` of a block as a sequence over row numbers, zero past the end. -/
def col {φ : FTy} (v : FVec Ideal S1024x1024 φ) (d : Fin 1024) (k : ℕ) : EReal :=
  if h : k < 1024 then v (ix2 ⟨k, h⟩ d) else 0

/-- A column of a block at a row inside it. -/
theorem col_of_lt {φ : FTy} (v : FVec Ideal S1024x1024 φ) (d : Fin 1024) (k : ℕ) (h : k < 1024) :
    col v d k = v (ix2 ⟨k, h⟩ d) := dif_pos h

/-- A sum cut off at `r` is the sum of the first `r` terms. -/
theorem sum_cut (g : ℕ → EReal) (N r : ℕ) (h : r ≤ N) :
    (∑ k ∈ Finset.range N, if k < r then g k else 0) = ∑ k ∈ Finset.range r, g k := by
  rw [← Finset.sum_filter]
  refine Finset.sum_congr ?_ fun _ _ => rfl
  ext k
  simp only [Finset.mem_filter, Finset.mem_range]
  omega

/-- The product with a strictly lower triangle sums the chunk's rows above row `r`. -/
theorem above_apply (tri : FVec Ideal S64x64 .bf16) (htri : ∀ r k : Fin 64, tri (ix2 r k) = if k.val < r.val then 1 else 0)
    (v : FVec Ideal S1024x1024 .bf16) (h : Fin 16) (r : Fin 64) (d : Fin 1024) :
    above tri v h (ix2 r d) = ∑ k ∈ Finset.range r.val, col v d (64 * h.val + k) := by
  unfold above
  pointwise [rows]
  rw [← sum_cut _ 64 r.val r.isLt.le, ← Fin.sum_univ_eq_sum_range (fun k => if k < r.val then col v d (64 * h.val + k) else 0)]
  refine Finset.sum_congr rfl fun k _ => ?_
  rw [htri, col_of_lt v d _ (by omega)]
  split
  · exact one_mul _
  · exact zero_mul _

/-- The last row of a chunk of 64. -/
theorem last_apply (v : FVec Ideal S1024x1024 .f32) (h : Fin 16) (d : Fin 1024) :
    last v h (ix2 0 d) = col v d (64 * h.val + 63) := by
  rw [col_of_lt v d _ (by omega)]
  unfold last
  pointwise

/-- Adding a chunk to a running sum. -/
theorem sum_chunk (a : EReal) (g : ℕ → EReal) (n : ℕ) :
    a + ∑ k ∈ Finset.range (64 * n), g k + (∑ k ∈ Finset.range 63, g (64 * n + k) + g (64 * n + 63))
      = a + ∑ k ∈ Finset.range (64 * (n + 1)), g k := by
  rw [← Finset.sum_range_succ (fun k => g (64 * n + k)), add_assoc, ← Finset.sum_range_add]
  rfl

/-- The carry before chunk `n`: the row it starts from plus the first `64 n` rows. -/
theorem sumBefore_apply (x : FVec Ideal S1024x1024 .f32) (xh : FVec Ideal S1024x1024 .bf16) (tri : FVec Ideal S64x64 .bf16)
    (c : FVec Ideal S1x1024 .f32) (htri : ∀ r k : Fin 64, tri (ix2 r k) = if k.val < r.val then 1 else 0)
    (d : Fin 1024) (hx : ∀ k, col xh d k = col x d k) : (n : ℕ) → (hn : n ≤ 16) →
    sumBefore x xh tri c n hn (ix2 0 d) = c (ix2 0 d) + ∑ k ∈ Finset.range (64 * n), col x d k
  | 0, _ => by simp [sumBefore]
  | n + 1, hn => by
    rw [← sum_chunk, ← sumBefore_apply x xh tri c htri d hx n (Nat.le_of_succ_le hn), sumBefore]
    pointwise [lastAbove]
    rw [above_apply tri htri, last_apply]
    simp only [hx]
    rfl

/-- The carry of squares before chunk `n`. -/
theorem sqBefore_apply (x : FVec Ideal S1024x1024 .f32) (xq : FVec Ideal S1024x1024 .bf16) (tri : FVec Ideal S64x64 .bf16)
    (c : FVec Ideal S1x1024 .f32) (htri : ∀ r k : Fin 64, tri (ix2 r k) = if k.val < r.val then 1 else 0)
    (d : Fin 1024) (hx : ∀ k, col xq d k = col x d k * col x d k) : (n : ℕ) → (hn : n ≤ 16) →
    sqBefore x xq tri c n hn (ix2 0 d) = c (ix2 0 d) + ∑ k ∈ Finset.range (64 * n), col x d k * col x d k
  | 0, _ => by simp [sqBefore]
  | n + 1, hn => by
    rw [← sum_chunk, ← sqBefore_apply x xq tri c htri d hx n (Nat.le_of_succ_le hn), sqBefore]
    pointwise [lastAbove]
    rw [above_apply tri htri, last_apply]
    simp only [hx]
    rfl

/-- A small natural number read back from its word as a signed number. -/
theorem toInt_ofNat (n : ℕ) (h : n < 65536) : (BitVec.ofNat 32 n).toInt = n := by
  have e : (BitVec.ofNat 32 n).toNat = n := by
    rw [BitVec.toNat_ofNat]
    omega
  rw [BitVec.toInt_eq_toNat_of_lt (by omega), e]

/-- Over the reals an integer word converts to the integer it holds. -/
theorem sitofp_def (b : BitVec 32) : (FloatOps.sitofp (F := Ideal) .f32 b : EReal) = ((b.toInt : ℝ) : EReal) := rfl

/-- The larger of a small count and one. -/
theorem maxsi_one (n : ℕ) (h : n < 65536) : IntOp.maxsi (BitVec.ofNat 32 n) 1#32 = BitVec.ofNat 32 (max n 1) := by
  unfold IntOp.maxsi
  have e : (1#32).toInt = 1 := by decide
  simp only [BitVec.slt, e, toInt_ofNat n h, decide_eq_true_eq]
  split
  · rw [max_eq_left (by omega)]
  · rw [max_eq_right (by omega)]

/-- The count of the rows before row `q` of block `j`, at least one. -/
theorem count_apply (j : ℕ) (hj : j < 4) (h : Fin 16) (r : Fin 64) :
    count (F := Ideal) (BitVec.ofNat 32 j) h (ix2 r 0) = ((max (1024 * j + (64 * h.val + r.val)) 1 : ℕ) : ℝ) := by
  unfold count
  pointwise
  have e : IntOp.addi (Scalar.addi (Scalar.muli (BitVec.ofNat 32 j) 1024#32) (BitVec.ofNat 32 (64 * h.val))) (BitVec.ofNat 32 r.val)
      = BitVec.ofNat 32 (1024 * j + (64 * h.val + r.val)) := by
    simp only [IntOp.addi, Scalar.addi, Scalar.muli, IntOp.muli, BitVec.ofNat_add, BitVec.ofNat_mul, mul_comm]
    exact BitVec.add_assoc _ _ _
  rw [e, maxsi_one _ (by omega), sitofp_def, toInt_ofNat _ (by omega)]
  rfl

/-- One entry's deviation from the mean of the rows before it, over their standard deviation, everything scaled by the
    count `n`: `v` the entry, `p` and `q` the sums of the rows before and of their squares. -/
def dev (n v p q : EReal) : EReal :=
  FloatOps.absf (F := Ideal) (φ := .f32)
    ((n * v - p) * Ideal.rsqrt (max (n * q - p * p) (Ideal.ofBits .f32 0x38D1B717#32 * n * n)))

/-- Entry `(q, d)` of the deviations, from the sums of the rows before row `q`. -/
theorem deviations_apply (j : ℕ) (hj : j < 4) (x : FVec Ideal S1024x1024 .f32) (xh xq : FVec Ideal S1024x1024 .bf16)
    (tri : FVec Ideal S64x64 .bf16) (c cq : FVec Ideal S1x1024 .f32)
    (htri : ∀ r k : Fin 64, tri (ix2 r k) = if k.val < r.val then 1 else 0) (d : Fin 1024)
    (hx : ∀ k, col xh d k = col x d k) (hq : ∀ k, col xq d k = col x d k * col x d k) (q : Fin 1024) :
    deviations (BitVec.ofNat 32 j) x xh xq tri c cq (ix2 q d)
      = dev ((max (1024 * j + q.val) 1 : ℕ) : ℝ) (col x d q.val) (c (ix2 0 d) + ∑ k ∈ Finset.range q.val, col x d k)
          (cq (ix2 0 d) + ∑ k ∈ Finset.range q.val, col x d k * col x d k) := by
  have hr : q.val % 64 < 64 := Nat.mod_lt _ (by decide)
  have hh : q.val / 64 < 16 := by omega
  have eq64 : 64 * (q.val / 64) + q.val % 64 = q.val := Nat.div_add_mod _ _
  have step (a : EReal) (g : ℕ → EReal) : a + ∑ k ∈ Finset.range (64 * (q.val / 64)), g k
      + ∑ k ∈ Finset.range (q.val % 64), g (64 * (q.val / 64) + k) = a + ∑ k ∈ Finset.range q.val, g k := by
    rw [add_assoc, ← Finset.sum_range_add, eq64]
  refine (concatenate_ofFn_apply (s₁ := S64x1024) (t := S1024x1024) 0
    (fun h => chunk (BitVec.ofNat 32 j) x xh xq tri c cq h) _ rfl 64 rfl (ix2 q d) ⟨q.val / 64, hh⟩ rfl
    (ix2 ⟨q.val % 64, hr⟩ d) rfl ?_).trans ?_
  · intro b hb
    fin_cases b
    · exact absurd rfl hb
    · rfl
  · unfold chunk deviation countH floorH prefixH
    pointwise [rows]
    rw [count_apply j hj, above_apply tri htri, above_apply tri htri,
      sumBefore_apply x xh tri c htri d hx, sqBefore_apply x xq tri cq htri d hq]
    simp only [hx, hq, step, eq64]
    rw [← hx, col_of_lt xh d q.val q.isLt]
    rfl

end Cert.KernelIdeal.Block

end
-- ==== Proof.Words.lean ====
/-
  The float constants of the two programs as rationals.
-/
module

public import Idealize.ShloMosaic.Lib.Pointwise

@[expose] public section

set_option maxRecDepth 16384

noncomputable section

namespace Cert.Entry

open Idealize.ShloMosaic

/-- The word `3F000000`. -/
theorem half_word : Ideal.ofBits .f32 0x3F000000#32 = ((1 / 2 : ℝ) : EReal) := by
  simp [Ideal.ofBits, Ideal.ieee, -EReal.coe_mul]
  norm_num

/-- The word `3F800000`. -/
theorem one_word : Ideal.ofBits .f32 0x3F800000#32 = ((1 : ℝ) : EReal) := by
  simp [Ideal.ofBits, Ideal.ieee, -EReal.coe_mul]
  norm_num

/-- The word `BF800000`. -/
theorem negOne_word : Ideal.ofBits .f32 0xBF800000#32 = ((-1 : ℝ) : EReal) := by
  simp [Ideal.ofBits, Ideal.ieee, -EReal.coe_mul]
  norm_num

/-- The word `41200000`. -/
theorem ten_word : Ideal.ofBits .f32 0x41200000#32 = ((10 : ℝ) : EReal) := by
  simp [Ideal.ofBits, Ideal.ieee, -EReal.coe_mul]
  norm_num

/-- The word `44800000`. -/
theorem width_word : Ideal.ofBits .f32 0x44800000#32 = ((1024 : ℝ) : EReal) := by
  simp [Ideal.ofBits, Ideal.ieee, -EReal.coe_mul]
  norm_num

/-- The word `38D1B717`. -/
theorem floorVar_word : Ideal.ofBits .f32 0x38D1B717#32 = ((13743895 / 137438953472 : ℝ) : EReal) := by
  simp [Ideal.ofBits, Ideal.ieee, -EReal.coe_mul]
  norm_num

/-- The word `3727C5AC`. -/
theorem eps_word : Ideal.ofBits .f32 0x3727C5AC#32 = ((2748779 / 274877906944 : ℝ) : EReal) := by
  simp [Ideal.ofBits, Ideal.ieee, -EReal.coe_mul]
  norm_num

/-- The word `33D6BF95`. -/
theorem floorPow_word : Ideal.ofBits .f32 0x33D6BF95#32 = ((14073749 / 140737488355328 : ℝ) : EReal) := by
  simp [Ideal.ofBits, Ideal.ieee, -EReal.coe_mul]
  norm_num

/-- The word `2B8CBCCC`. -/
theorem floorNorm_word : Ideal.ofBits .f32 0x2B8CBCCC#32 = ((2305843 / 2305843009213693952 : ℝ) : EReal) := by
  simp [Ideal.ofBits, Ideal.ieee, -EReal.coe_mul]
  norm_num

/-- The word `3F4C422A`. -/
theorem geluScale_word : Ideal.ofBits .f32 0x3F4C422A#32 = ((6693141 / 8388608 : ℝ) : EReal) := by
  simp [Ideal.ofBits, Ideal.ieee, -EReal.coe_mul]
  norm_num

/-- The word `3D372713`. -/
theorem geluCubic_word : Ideal.ofBits .f32 0x3D372713#32 = ((12003091 / 268435456 : ℝ) : EReal) := by
  simp [Ideal.ofBits, Ideal.ieee, -EReal.coe_mul]
  norm_num

end Cert.Entry

end
-- ==== Proof.Scalar.lean ====
/-
  The laws of the extended reals that the equation of the two programs needs: how a nonnegative finite factor moves, the
  reciprocal square root against the square root, and powers against exponentials.
-/
module

public import proofs.«01_k».proof.Proof.Words

@[expose] public section

set_option maxRecDepth 16384

noncomputable section

namespace Cert.Entry

open Idealize.ShloMosaic

/-- The larger of two reals, as an extended real. -/
theorem max_coe (a b : ℝ) : ((max a b : ℝ) : EReal) = max (a : EReal) (b : EReal) := EReal.coe_strictMono.monotone.map_max

/-- A nonnegative finite factor distributes over a sum. -/
theorem coe_mul_add (c : ℝ) (hc : 0 ≤ c) (a b : EReal) : (c : EReal) * (a + b) = c * a + c * b :=
  EReal.left_distrib_of_nonneg_of_ne_top (EReal.coe_nonneg.mpr hc) (EReal.coe_ne_top c) a b

/-- … and over a difference. -/
theorem coe_mul_sub (c : ℝ) (hc : 0 ≤ c) (a b : EReal) : (c : EReal) * (a - b) = c * a - c * b := by
  rw [sub_eq_add_neg, sub_eq_add_neg, coe_mul_add c hc, mul_neg]

/-- … and over a finite sum. -/
theorem sum_mul_coe {ι : Type*} (s : Finset ι) (f : ι → EReal) (c : ℝ) (hc : 0 ≤ c) :
    (∑ k ∈ s, f k) * (c : EReal) = ∑ k ∈ s, f k * c := by
  classical
  induction s using Finset.induction_on with
  | empty => simp
  | insert a s ha ih => rw [Finset.sum_insert ha, Finset.sum_insert ha, ← ih, mul_comm, coe_mul_add c hc, mul_comm, mul_comm (c : EReal)]

/-- A positive finite factor and its inverse cancel. -/
theorem coe_mul_inv (c : ℝ) (hc : 0 < c) (a : EReal) : (c : EReal) * (a * ((1 / c : ℝ) : EReal)) = a := by
  rw [mul_comm a, ← mul_assoc, ← EReal.coe_mul, mul_one_div_cancel hc.ne', EReal.coe_one, one_mul]

/-- A positive finite factor moves into a maximum. -/
theorem coe_mul_max (c : ℝ) (hc : 0 ≤ c) (a b : EReal) : (c : EReal) * max a b = max (c * a) (c * b) := by
  rcases le_total a b with h | h
  · rw [max_eq_right h, max_eq_right (mul_le_mul_of_nonneg_left h (EReal.coe_nonneg.mpr hc))]
  · rw [max_eq_left h, max_eq_left (mul_le_mul_of_nonneg_left h (EReal.coe_nonneg.mpr hc))]

/-- A square is nonnegative. -/
theorem sq_nonneg (a : EReal) : 0 ≤ a * a := by
  rcases le_total 0 a with h | h
  · exact mul_nonneg h h
  · rw [← neg_mul_neg]
    exact mul_nonneg (EReal.neg_nonneg.mpr h) (EReal.neg_nonneg.mpr h)

/-- For a positive value: its reciprocal root is the inverse of its root, and its root is positive. -/
theorem sqrt_pos (v : EReal) (hv : 0 < v) : 0 < Ideal.sqrt v := by
  induction v with
  | bot => exact absurd hv (by simp)
  | top => simp
  | coe r =>
    have hr : 0 < r := EReal.coe_pos.mp hv
    rw [Ideal.sqrt_coe, if_neg hr.le.not_gt]
    exact EReal.coe_pos.mpr (Real.sqrt_pos.mpr hr)

/-- The reciprocal of the root of a positive number is its reciprocal root. -/
theorem inv_sqrt (v : EReal) (hv : 0 < v) : (Ideal.sqrt v)⁻¹ = Ideal.rsqrt v := by
  induction v with
  | bot => exact absurd hv (by simp)
  | top => simp
  | coe r =>
    have hr : 0 < r := EReal.coe_pos.mp hv
    rw [Ideal.sqrt_coe, Ideal.rsqrt_coe, if_neg hr.le.not_gt, if_neg hr.le.not_gt, if_neg hr.ne', EReal.coe_inv]

/-- Dividing by the root of a positive value is multiplying by its reciprocal root. -/
theorem div_sqrt (a v : EReal) (hv : 0 < v) : Ideal.div a (Ideal.sqrt v) = a * Ideal.rsqrt v := by
  rw [Ideal.div, if_neg (sqrt_pos v hv).ne', inv_sqrt v hv]

/-- The reciprocal root of a value scaled by a square. -/
theorem rsqrt_scale (c : ℝ) (hc : 0 < c) (v : EReal) (hv : 0 < v) :
    Ideal.rsqrt (((c * c : ℝ) : EReal) * v) = ((1 / c : ℝ) : EReal) * Ideal.rsqrt v := by
  have hcc : 0 < c * c := mul_pos hc hc
  induction v with
  | bot => exact absurd hv (by simp)
  | top => rw [EReal.coe_mul_top_of_pos hcc, Ideal.rsqrt_top, mul_zero]
  | coe r =>
    have hr : 0 < r := EReal.coe_pos.mp hv
    have hp : 0 < c * c * r := mul_pos hcc hr
    rw [← EReal.coe_mul, Ideal.rsqrt_coe, Ideal.rsqrt_coe, if_neg hp.le.not_gt, if_neg hp.ne', if_neg hr.le.not_gt, if_neg hr.ne',
      ← EReal.coe_mul, Real.sqrt_mul hcc.le, Real.sqrt_mul_self hc.le, mul_inv, one_div]

/-- The larger of a root and a positive `f`, inverted: the reciprocal root of the larger of the value and `f * f`; it is
    a nonnegative real. -/
theorem inv_max_sqrt (v : EReal) (hv : 0 ≤ v) (f : ℝ) (hf : 0 < f) :
    ∃ i : ℝ, 0 ≤ i ∧ Ideal.rsqrt (max v ((f * f : ℝ) : EReal)) = i ∧ max (Ideal.sqrt v) (f : EReal) ≠ 0
      ∧ (max (Ideal.sqrt v) (f : EReal))⁻¹ = i := by
  have hff : 0 < f * f := mul_pos hf hf
  have hpos : (0 : EReal) < max (Ideal.sqrt v) (f : EReal) := lt_of_lt_of_le (EReal.coe_pos.mpr hf) (le_max_right _ _)
  have key : (max (Ideal.sqrt v) (f : EReal)) = Ideal.sqrt (max v ((f * f : ℝ) : EReal)) := by
    induction v with
    | bot => exact absurd hv (by simp)
    | top => simp
    | coe r =>
      have hr : 0 ≤ r := EReal.coe_nonneg.mp hv
      have hm : 0 ≤ max r (f * f) := le_max_of_le_left hr
      rw [← max_coe, Ideal.sqrt_coe, Ideal.sqrt_coe, if_neg hr.not_gt, if_neg hm.not_gt, ← max_coe]
      congr 1
      rcases le_total r (f * f) with h | h
      · rw [max_eq_right h, Real.sqrt_mul_self hf.le, max_eq_right]
        rw [← Real.sqrt_mul_self hf.le]
        exact Real.sqrt_le_sqrt h
      · rw [max_eq_left h, max_eq_left]
        rw [← Real.sqrt_mul_self hf.le]
        exact Real.sqrt_le_sqrt h
  have hw : 0 < max v ((f * f : ℝ) : EReal) := lt_of_lt_of_le (EReal.coe_pos.mpr hff) (le_max_right _ _)
  have real (w : EReal) (hw : 0 < w) : ∃ i : ℝ, 0 ≤ i ∧ Ideal.rsqrt w = i := by
    induction w with
    | bot => exact absurd hw (by simp)
    | top => exact ⟨0, le_rfl, rfl⟩
    | coe r =>
      have hr : 0 < r := EReal.coe_pos.mp hw
      exact ⟨(Real.sqrt r)⁻¹, inv_nonneg.mpr (Real.sqrt_nonneg r), by
        rw [Ideal.rsqrt_coe, if_neg hr.le.not_gt, if_neg hr.ne']⟩
  obtain ⟨i, hi, e⟩ := real _ hw
  exact ⟨i, hi, e, hpos.ne', by rw [key, inv_sqrt _ hw, e]⟩

/-- A hyperbolic tangent is a real of size at most one. -/
theorem tanh_real (y : EReal) : ∃ t : ℝ, -1 ≤ t ∧ t ≤ 1 ∧ Ideal.tanh y = t := by
  induction y with
  | bot => exact ⟨-1, le_rfl, by norm_num, by simp⟩
  | top => exact ⟨1, by norm_num, le_rfl, by simp⟩
  | coe r => exact ⟨Real.tanh r, (Real.neg_one_lt_tanh r).le, (Real.tanh_lt_one r).le, rfl⟩

/-- A power of a value in `(0, 1]` as an exponential, whatever the exponent. -/
theorem pow_eq_exp (r : ℝ) (h0 : 0 < r) (h1 : r ≤ 1) (a : EReal) :
    Ideal.pow r a = Ideal.exp (a * Ideal.log r) := by
  rw [Ideal.log_coe, if_neg h0.not_ge]
  rcases eq_or_lt_of_le h1 with h | h
  · subst h
    rw [Real.log_one, EReal.coe_zero, mul_zero, ← EReal.coe_zero, Ideal.exp_coe, Real.exp_zero]
    induction a with
    | bot => rw [Ideal.pow_coe_bot]; simp
    | top => rw [Ideal.pow_coe_top]; simp
    | coe a => rw [Ideal.pow_coe_coe]; simp
  · have hl : Real.log r < 0 := Real.log_neg h0 h
    induction a with
    | bot => rw [Ideal.pow_coe_bot, if_neg h0.le.not_gt, if_neg h.le.not_gt, if_neg h.ne, EReal.bot_mul_coe_of_neg hl, Ideal.exp_top]
    | top => rw [Ideal.pow_coe_top, if_neg h0.le.not_gt, if_neg h.le.not_gt, if_neg h.ne, EReal.top_mul_coe_of_neg hl, Ideal.exp_bot]
    | coe a =>
      rw [Ideal.pow_coe_coe, ← EReal.coe_mul, Ideal.exp_coe]
      congr 1
      exact (Real.rpow_def_of_pos h0 a).trans (by rw [mul_comm])

/-- The clipped squashed score raised to a power. -/
theorem pow_clip (f : ℝ) (h0 : 0 < f) (h1 : f ≤ 1) (y a : EReal) :
    Ideal.exp (a * Ideal.log (max (Ideal.tanh y) (f : EReal))) = Ideal.pow (max (f : EReal) (Ideal.tanh y)) a := by
  obtain ⟨t, _, ht, e⟩ := tanh_real y
  rw [e, max_comm, ← max_coe, pow_eq_exp _ (lt_max_of_lt_left h0) (max_le h1 ht)]

end Cert.Entry

end
-- ==== Proof.Entry.lean ====
/-
  The equation of the two programs for one entry of the result.

  An entry depends on its row `x`, on the number of rows before it, on the sums of those rows and of their squares, on the
  stored statistics rows and on eight scalars. `kernelEntry` is what the kernel computes from them, `referenceEntry` what
  the reference computes; `entry_eq` says they are the same extended real.
-/
module

public import proofs.«01_k».proof.Proof.Scalar

@[expose] public section

set_option maxRecDepth 16384

noncomputable section

namespace Cert.Entry

open Idealize.ShloMosaic

/-! ### The activation -/

/-- The reference's activation. -/
def act (x : EReal) : EReal :=
  Ideal.ofBits .f32 0x3F000000#32 * x * (1 + Ideal.tanh (Ideal.ofBits .f32 0x3F4C422A#32 * (x + Ideal.ofBits .f32 0x3D372713#32 * x * x * x)))

/-- The kernel's activation, from its two constants. -/
def actK (gs gc x : EReal) : EReal :=
  x * (Ideal.ofBits .f32 0x3F000000#32 * Ideal.tanh (gs * (x + gc * (x * x * x))) + Ideal.ofBits .f32 0x3F000000#32)

/-- The kernel's form of the activation equals the reference's. -/
theorem act_eq (x : EReal) : actK ((6693141 / 8388608 : ℝ) : EReal) ((12003091 / 268435456 : ℝ) : EReal) x = act x := by
  unfold actK act
  rw [geluScale_word, geluCubic_word, half_word]
  have e : ((12003091 / 268435456 : ℝ) : EReal) * (x * x * x) = ((12003091 / 268435456 : ℝ) : EReal) * x * x * x := by
    simp only [mul_assoc]
  rw [e]
  obtain ⟨t, _, _, h⟩ := tanh_real (((6693141 / 8388608 : ℝ) : EReal) * (x + ((12003091 / 268435456 : ℝ) : EReal) * x * x * x))
  rw [h, ← EReal.coe_one, ← EReal.coe_mul, ← EReal.coe_add, ← EReal.coe_add, mul_comm _ x, mul_assoc, ← EReal.coe_mul]
  congr 2
  ring

/-! ### The deviations -/

/-- The reference's deviation from the stored mean `m`, with stored mean square `s`. -/
def dev1 (x m s : EReal) : EReal :=
  Ideal.div (x - m) (Ideal.sqrt (max (Ideal.ofBits .f32 0x38D1B717#32) (s - m * m)) + Ideal.ofBits .f32 0x3727C5AC#32)

/-- Multiplying by the reciprocal of the stored deviation is dividing by it. -/
theorem dev1_eq (x m s : EReal) :
    (x - m) * Ideal.div 1 (Ideal.sqrt (max (s - m * m) (Ideal.ofBits .f32 0x38D1B717#32)) + Ideal.ofBits .f32 0x3727C5AC#32)
      = dev1 x m s := by
  unfold dev1
  rw [max_comm, floorVar_word, eps_word]
  have h : (0 : EReal) < max ((13743895 / 137438953472 : ℝ) : EReal) (s - m * m) :=
    lt_of_lt_of_le (EReal.coe_pos.mpr (by norm_num)) (le_max_left _ _)
  have h2 : (0 : EReal) < Ideal.sqrt (max ((13743895 / 137438953472 : ℝ) : EReal) (s - m * m)) + ((2748779 / 274877906944 : ℝ) : EReal) :=
    lt_of_lt_of_le (EReal.coe_pos.mpr (by norm_num)) (le_add_of_nonneg_left (sqrt_pos _ h).le)
  rw [Ideal.div, Ideal.div, if_neg h2.ne', if_neg h2.ne', one_mul]

/-- The reference's deviation from the mean of the `n` rows before, `p` and `q` the sums of those rows and their squares. -/
def dev3 (n x p q : EReal) : EReal :=
  Ideal.div (x - Ideal.div p n)
    (Ideal.sqrt (max (Ideal.ofBits .f32 0x38D1B717#32) (Ideal.div q n - Ideal.div p n * Ideal.div p n)))

/-- The kernel's, everything scaled by the count. -/
def dev3K (n x p q : EReal) : EReal :=
  (n * x - p) * Ideal.rsqrt (max (n * q - p * p) (Ideal.ofBits .f32 0x38D1B717#32 * n * n))

/-- The kernel's local deviation, its numerator and its variance both scaled by the count, equals the reference's. -/
theorem dev3_eq (n : ℝ) (hn : 0 < n) (x p q : EReal) : dev3K n x p q = dev3 n x p q := by
  unfold dev3K dev3
  rw [floorVar_word]
  generalize hE : (13743895 / 137438953472 : ℝ) = E
  have hE0 : 0 < E := by rw [← hE]; norm_num
  have hv : (0 : EReal) < max (E : EReal) (Ideal.div q n - Ideal.div p n * Ideal.div p n) :=
    lt_of_lt_of_le (EReal.coe_pos.mpr hE0) (le_max_left _ _)
  rw [div_sqrt _ _ hv]
  have e1 : (n : EReal) * x - p = n * (x - Ideal.div p n) := by
    rw [coe_mul_sub n hn.le, Ideal.div_coe hn.ne', coe_mul_inv n hn]
  have e2 : (n : EReal) * q - p * p = ((n * n : ℝ) : EReal) * (Ideal.div q n - Ideal.div p n * Ideal.div p n) := by
    rw [coe_mul_sub _ (mul_pos hn hn).le, EReal.coe_mul]
    congr 1
    · rw [mul_assoc, Ideal.div_coe hn.ne', coe_mul_inv n hn]
    · rw [mul_mul_mul_comm, Ideal.div_coe hn.ne', coe_mul_inv n hn]
  have e3 : (E : EReal) * n * n = ((n * n : ℝ) : EReal) * E := by
    rw [EReal.coe_mul, mul_comm, mul_comm (E : EReal), mul_assoc]
  rw [e1, e2, e3, ← coe_mul_max _ (mul_pos hn hn).le, max_comm _ (E : EReal), rsqrt_scale n hn _ hv,
    mul_mul_mul_comm, ← EReal.coe_mul, mul_one_div_cancel hn.ne', EReal.coe_one, one_mul]

/-! ### The scores -/

/-- The reference's score of the absolute deviations `z` along a row, with weight `s` and exponent `a`. -/
def score (s a : EReal) (z : Fin 1024 → EReal) : EReal :=
  Ideal.pow (max (Ideal.ofBits .f32 0x33D6BF95#32)
    (Ideal.tanh (s * Ideal.div (∑ k, z k) (Ideal.ofBits .f32 0x44800000#32)))) a

/-- A squashed value clipped from below and raised to a power, the kernel's way and the reference's. -/
theorem clip_eq (y a : EReal) :
    Ideal.exp (a * Ideal.log (max (Ideal.tanh y) (Ideal.ofBits .f32 0x33D6BF95#32)))
      = Ideal.pow (max (Ideal.ofBits .f32 0x33D6BF95#32) (Ideal.tanh y)) a := by
  rw [floorPow_word]
  exact pow_clip _ (by norm_num) (by norm_num) y a

/-- The kernel's score, an exponential of a logarithm of the summed deviations, equals the reference's power of their mean. -/
theorem score_eq (s a : EReal) (z : Fin 1024 → EReal) :
    Ideal.exp (a * Ideal.log (max (Ideal.tanh (Ideal.div s (Ideal.ofBits .f32 0x44800000#32) * ∑ k, z k))
      (Ideal.ofBits .f32 0x33D6BF95#32))) = score s a z := by
  have e : Ideal.div s (Ideal.ofBits .f32 0x44800000#32) * ∑ k, z k = s * Ideal.div (∑ k, z k) (Ideal.ofBits .f32 0x44800000#32) := by
    rw [width_word, Ideal.div_coe (by norm_num), Ideal.div_coe (by norm_num), mul_assoc]
    congr 1
    exact mul_comm _ _
  rw [clip_eq, e]
  rfl

/-- The reference's score of the two stored variances. -/
def burst (s a : EReal) (vf vs : Fin 1024 → EReal) : EReal :=
  Ideal.pow (max (Ideal.ofBits .f32 0x33D6BF95#32) (Ideal.tanh (s * max (Ideal.div
    (∑ k, min (Ideal.ofBits .f32 0x41200000#32) (Ideal.div (vf k) (max (Ideal.ofBits .f32 0x38D1B717#32) (vs k))))
    (Ideal.ofBits .f32 0x44800000#32) - 1) 0))) a

/-- The kernel's. -/
def burstK (s a : EReal) (vf vs : Fin 1024 → EReal) : EReal :=
  Ideal.exp (a * Ideal.log (max (Ideal.tanh (s * max (Ideal.div
    (∑ k, min (Ideal.div (vf k) (max (vs k) (Ideal.ofBits .f32 0x38D1B717#32))) (Ideal.ofBits .f32 0x41200000#32))
    (Ideal.ofBits .f32 0x44800000#32) - 1) 0)) (Ideal.ofBits .f32 0x33D6BF95#32)))

/-- The two forms of the burst score are equal. -/
theorem burst_eq (s a : EReal) (vf vs : Fin 1024 → EReal) : burstK s a vf vs = burst s a vf vs := by
  unfold burstK burst
  rw [clip_eq]
  simp only [min_comm (Ideal.ofBits .f32 0x41200000#32), max_comm (Ideal.ofBits .f32 0x38D1B717#32)]

/-! ### The cosine -/

/-- The reference's cosine of a row against a direction, both divided by their lengths first. -/
def cosine (o e : Fin 1024 → EReal) : EReal :=
  ∑ k, Ideal.div (o k) (max (Ideal.sqrt (∑ l, o l * o l)) (Ideal.ofBits .f32 0x2B8CBCCC#32))
    * Ideal.div (e k) (max (Ideal.sqrt (∑ l, e l * e l)) (Ideal.ofBits .f32 0x2B8CBCCC#32))

/-- The kernel's: the plain product times both reciprocal lengths, from the square of the floor. -/
def cosineK (ff : EReal) (o e : Fin 1024 → EReal) : EReal :=
  (∑ k, o k * e k) * (Ideal.rsqrt (max (∑ l, e l * e l) ff) * Ideal.rsqrt (max (∑ l, o l * o l) ff))

/-- Dividing the inner product by both norms at once is normalising each vector first. -/
theorem cosine_eq (o e : Fin 1024 → EReal) :
    cosineK ((5316911940649 / 5316911983139663491615228241121378304 : ℝ) : EReal) o e = cosine o e := by
  unfold cosineK cosine
  rw [floorNorm_word]
  have hF : (5316911940649 / 5316911983139663491615228241121378304 : ℝ)
      = (2305843 / 2305843009213693952 : ℝ) * (2305843 / 2305843009213693952 : ℝ) := by norm_num
  rw [hF]
  generalize hf : (2305843 / 2305843009213693952 : ℝ) = f
  have hf0 : 0 < f := by rw [← hf]; norm_num
  obtain ⟨i, hi, ei, ni, ii⟩ := inv_max_sqrt (∑ l, o l * o l) (Finset.sum_nonneg fun l _ => sq_nonneg (o l)) f hf0
  obtain ⟨j, hj, ej, nj, ij⟩ := inv_max_sqrt (∑ l, e l * e l) (Finset.sum_nonneg fun l _ => sq_nonneg (e l)) f hf0
  rw [ei, ej, ← EReal.coe_mul, sum_mul_coe _ _ _ (mul_nonneg hj hi)]
  refine Finset.sum_congr rfl fun k _ => ?_
  rw [Ideal.div, Ideal.div, if_neg ni, if_neg nj, ii, ij, mul_mul_mul_comm, ← EReal.coe_mul, mul_comm i j]

/-! ### The entry -/

/-- The reference's entry at column `k`. -/
def referenceEntry (x : Fin 1024 → EReal) (first : Prop) [Decidable first] (n : EReal) (p q : Fin 1024 → EReal)
    (m s e vf vs : Fin 1024 → EReal) (tau s1 s2 s3 w a1 a2 a3 : EReal) (k : Fin 1024) : EReal :=
  act (x k) * (Ideal.exp (-tau * min 1 (max (Ideal.ofBits .f32 0xBF800000#32) (cosine (fun l => act (x l)) e)))
    * (1 + w * (score s1 a1 (fun l => FloatOps.absf (F := Ideal) (φ := .f32) (dev1 (x l) (m l) (s l))) * burst s2 a2 vf vs
      * score s3 a3 (fun l => FloatOps.absf (F := Ideal) (φ := .f32) (if first then 0 else dev3 n (x l) (p l) (q l))))))

/-- The kernel's entry at column `k`. -/
def kernelEntry (x : Fin 1024 → EReal) (mask : EReal) (n : EReal) (p q : Fin 1024 → EReal)
    (m s e vf vs : Fin 1024 → EReal) (tau s1 s2 s3 w a1 a2 a3 gs gc ff : EReal) (k : Fin 1024) : EReal :=
  actK gs gc (x k) * (Ideal.exp ((0 - tau) * min 1 (max (Ideal.ofBits .f32 0xBF800000#32) (cosineK ff (fun l => actK gs gc (x l)) e)))
    * (1 + w * burstK s2 a2 vf vs
      * (Ideal.exp (a1 * Ideal.log (max (Ideal.tanh (Ideal.div s1 (Ideal.ofBits .f32 0x44800000#32)
          * ∑ l, FloatOps.absf (F := Ideal) (φ := .f32) ((x l - m l) * Ideal.div 1 (Ideal.sqrt (max (s l - m l * m l) (Ideal.ofBits .f32 0x38D1B717#32)) + Ideal.ofBits .f32 0x3727C5AC#32))))
          (Ideal.ofBits .f32 0x33D6BF95#32)))
        * Ideal.exp (a3 * Ideal.log (max (Ideal.tanh (Ideal.div s3 (Ideal.ofBits .f32 0x44800000#32)
          * ((∑ l, FloatOps.absf (F := Ideal) (φ := .f32) (dev3K n (x l) (p l) (q l))) * mask)))
          (Ideal.ofBits .f32 0x33D6BF95#32))))))

/-- The absolute value of zero. -/
theorem absf_zero : FloatOps.absf (F := Ideal) (φ := .f32) (0 : EReal) = 0 :=
  show max (0 : EReal) (-0) = 0 by rw [neg_zero, max_self]

/-- At every entry the kernel's formula and the reference's are equal, for all extended reals. -/
theorem entry_eq (x : Fin 1024 → EReal) (first : Prop) [Decidable first] (n : ℝ) (hn : 0 < n) (p q : Fin 1024 → EReal)
    (m s e vf vs : Fin 1024 → EReal) (tau s1 s2 s3 w a1 a2 a3 : EReal) (k : Fin 1024) :
    kernelEntry x (if first then 0 else 1) n p q m s e vf vs tau s1 s2 s3 w a1 a2 a3 ((6693141 / 8388608 : ℝ) : EReal)
        ((12003091 / 268435456 : ℝ) : EReal) ((5316911940649 / 5316911983139663491615228241121378304 : ℝ) : EReal) k
      = referenceEntry x first n p q m s e vf vs tau s1 s2 s3 w a1 a2 a3 k := by
  have h3 : (∑ l, FloatOps.absf (F := Ideal) (φ := .f32) (dev3K n (x l) (p l) (q l))) * (if first then (0 : EReal) else 1)
      = ∑ l, FloatOps.absf (F := Ideal) (φ := .f32) (if first then 0 else dev3 n (x l) (p l) (q l)) := by
    by_cases h : first
    · simp only [if_pos h, absf_zero, mul_zero, Finset.sum_const_zero]
    · simp only [if_neg h, mul_one, dev3_eq n hn]
  unfold kernelEntry referenceEntry
  rw [h3]
  simp only [act_eq, cosine_eq, dev1_eq, burst_eq, score_eq, zero_sub]
  rw [mul_assoc w, ← mul_assoc (burst s2 a2 vf vs), mul_comm (burst s2 a2 vf vs)]

end Cert.Entry

end
-- ==== Proof.Tile.lean ====
/-
  One grid point over the extended reals: the entry it stores at a row and a column, and the carried rows it hands on.
-/
module

public import proofs.«01_k».proof.Proof.Rows
public import proofs.«01_k».proof.Proof.Entry
public import Idealize.ShloMosaic.Lib.Pipeline.ValueKit.Tiles

@[expose] public section

set_option maxRecDepth 16384

noncomputable section

namespace Cert.KernelIdeal.Block

open Cert.KernelIdeal Cert.KernelIdeal.Gen Idealize.ShloMosaic

/-- A scalar read out of the eight. -/
theorem scal_apply (s : Vec Ideal S8 .f32) (k : ℕ) (hk : k < 8) (inb : ∀ a, (![k] : Fin 1 → Nat) a + S1.size a ≤ S8.size a) :
    scal s k inb = s (ix1 ⟨k, hk⟩) := by
  rw [scal, View.ld_apply]
  congr 1
  funext a
  fin_cases a
  exact Fin.ext (Rect.idx_unit_val ..)

/-- A row read out of the five. -/
theorem stat_apply (r : Vec Ideal S5x1024 .f32) (k : ℕ) (hk : k < 5)
    (inb : ∀ a, (![k, 0] : Fin 2 → Nat) a + S1x1024.size a ≤ S5x1024.size a) (d : Fin 1024) :
    stat r k inb (ix2 0 d) = r (ix2 ⟨k, hk⟩ d) := by
  rw [stat, View.ld_apply]
  congr 1
  funext a
  refine Fin.ext ?_
  rw [Rect.idx_unit_val]
  fin_cases a <;> simp

/-- The block of the input, as a matrix. -/
theorem pay4_apply (x : Vec Ideal S1x1024x1024 .f32) (q d : Fin 1024) : k0_pay4 x (ix2 q d) = x (ix3 0 q d) := by
  unfold k0_pay4
  pointwise

/-- The narrowed block: narrowing changes nothing over the reals. -/
theorem pay5_apply (x : Vec Ideal S1x1024x1024 .f32) (q d : Fin 1024) : k0_pay5 x (ix2 q d) = x (ix3 0 q d) := by
  unfold k0_pay5
  pointwise [pay4_apply]

/-- The squared block. -/
theorem pay6_apply (x : Vec Ideal S1x1024x1024 .f32) (q d : Fin 1024) : k0_pay6 x (ix2 q d) = x (ix3 0 q d) * x (ix3 0 q d) := by
  unfold k0_pay6
  pointwise [pay5_apply]

/-- The triangle is used as it is handed in. -/
theorem pay7_eq (tri : Vec Ideal S64x64 .bf16) : k0_pay7 tri = tri := by
  funext i
  rw [eq_ix2 i]
  unfold k0_pay7
  pointwise

/-- The pair of columns is used as it is handed in. -/
theorem pay8_eq (v : Vec Ideal S1024x2 .bf16) : k0_pay8 v = v := by
  funext i
  rw [eq_ix2 i]
  unfold k0_pay8
  pointwise

/-- A row is used as it is handed in. -/
theorem pay10_eq (v : Vec Ideal S1x1024 .f32) : k0_pay10 v = v := by
  funext i
  rw [eq_ix2 i]
  unfold k0_pay10
  pointwise

/-- Column `d` of a point's rows as a sequence, zero past the end. -/
def xcol (x : Vec Ideal S1x1024x1024 .f32) (d : Fin 1024) (k : ℕ) : EReal :=
  if h : k < 1024 then x (ix3 0 ⟨k, h⟩ d) else 0

/-- A column of the block. -/
theorem col_pay4 (x : Vec Ideal S1x1024x1024 .f32) (d : Fin 1024) (k : ℕ) : col (k0_pay4 x) d k = xcol x d k := by
  unfold col xcol
  simp only [pay4_apply]

/-- A column of the narrowed block is that of the block. -/
theorem col_pay5 (x : Vec Ideal S1x1024x1024 .f32) (d : Fin 1024) (k : ℕ) : col (k0_pay5 x) d k = col (k0_pay4 x) d k := by
  unfold col
  simp only [pay4_apply, pay5_apply]

/-- A column of the squared block is the squares of that of the block. -/
theorem col_pay6 (x : Vec Ideal S1x1024x1024 .f32) (d : Fin 1024) (k : ℕ) :
    col (k0_pay6 x) d k = col (k0_pay4 x) d k * col (k0_pay4 x) d k := by
  unfold col
  simp only [pay4_apply, pay6_apply]
  split
  · rfl
  · exact (mul_zero _).symm

/-- The row sums a point hands on: those it starts from plus its own rows. -/
theorem sumNext_apply (x : Vec Ideal S1x1024x1024 .f32) (tri : Vec Ideal S64x64 .bf16) (c : FVec Ideal S1x1024 .f32)
    (htri : ∀ r k : Fin 64, tri (ix2 r k) = if k.val < r.val then 1 else 0) (d : Fin 1024) :
    sumNext x tri c (ix2 0 d) = c (ix2 0 d) + ∑ k ∈ Finset.range 1024, xcol x d k := by
  unfold sumNext
  pointwise
  rw [pay7_eq, sumBefore_apply _ _ tri c htri d (col_pay5 x d)]
  simp only [col_pay4]

/-- The row sums of squares a point hands on. -/
theorem sqNext_apply (x : Vec Ideal S1x1024x1024 .f32) (tri : Vec Ideal S64x64 .bf16) (c : FVec Ideal S1x1024 .f32)
    (htri : ∀ r k : Fin 64, tri (ix2 r k) = if k.val < r.val then 1 else 0) (d : Fin 1024) :
    sqNext x tri c (ix2 0 d) = c (ix2 0 d) + ∑ k ∈ Finset.range 1024, xcol x d k * xcol x d k := by
  unfold sqNext
  pointwise
  rw [pay7_eq, sqBefore_apply _ _ tri c htri d (col_pay6 x d)]
  simp only [col_pay4]

/-- The carried sums start at zero. -/
theorem pay2_apply (d : Fin 1024) : k0_pay2 (F := Ideal) (ix2 0 d) = 0 := by
  unfold k0_pay2
  pointwise

/-- The carried sums of squares start at zero. -/
theorem pay3_apply (d : Fin 1024) : k0_pay3 (F := Ideal) (ix2 0 d) = 0 := by
  unfold k0_pay3
  pointwise

/-- The mask of the first row of a sequence. -/
theorem mask_apply (j : ℕ) (hj : j < 4) (q : Fin 1024) :
    (FloatOps.sitofp (F := Ideal) .f32 (BitVec.setWidth 32 (IntOp.cmpi CmpIPredicate.sgt
      (IntOp.addi (Scalar.muli (BitVec.ofNat 32 j) 1024#32) (BitVec.ofNat 32 q.val)) 0#32)) : EReal)
      = if 1024 * j + q.val = 0 then 0 else 1 := by
  have e : IntOp.addi (Scalar.muli (BitVec.ofNat 32 j) 1024#32) (BitVec.ofNat 32 q.val) = BitVec.ofNat 32 (1024 * j + q.val) := by
    simp only [IntOp.addi, Scalar.muli, IntOp.muli, BitVec.ofNat_add, BitVec.ofNat_mul, mul_comm]
  have e0 : (0#32).toInt = 0 := by decide
  rw [e, sitofp_def]
  simp only [IntOp.cmpi, BitVec.slt, e0, toInt_ofNat (1024 * j + q.val) (by omega)]
  by_cases h : 1024 * j + q.val = 0
  · rw [if_pos h, h]
    simp
  · have h' : (0 : ℤ) < ((1024 * j + q.val : ℕ) : ℤ) := by omega
    rw [if_neg h]
    simp only [h']
    simp

/-- The entry a point stores at row `q` of block `j` and column `d`. -/
theorem tile_apply (j : ℕ) (hj : j < 4) (s : Vec Ideal S8 .f32) (r : Vec Ideal S5x1024 .f32) (pr : Vec Ideal S1024x2 .bf16)
    (tri : Vec Ideal S64x64 .bf16) (x : Vec Ideal S1x1024x1024 .f32) (c cq : FVec Ideal S1x1024 .f32)
    (htri : ∀ r k : Fin 64, tri (ix2 r k) = if k.val < r.val then 1 else 0)
    (hone : ∀ k : Fin 1024, pr (ix2 k 0) = 1) (hdir : ∀ k : Fin 1024, pr (ix2 k 1) = r (ix2 2 k)) (q d : Fin 1024) :
    tile (BitVec.ofNat 32 j) s r pr tri x c cq (ix3 0 q d)
      = Cert.Entry.kernelEntry (fun k => x (ix3 0 q k)) (if 1024 * j + q.val = 0 then 0 else 1)
          ((max (1024 * j + q.val) 1 : ℕ) : ℝ)
          (fun k => c (ix2 0 k) + ∑ i ∈ Finset.range q.val, xcol x k i)
          (fun k => cq (ix2 0 k) + ∑ i ∈ Finset.range q.val, xcol x k i * xcol x k i)
          (fun k => r (ix2 0 k)) (fun k => r (ix2 1 k)) (fun k => r (ix2 2 k)) (fun k => r (ix2 3 k)) (fun k => r (ix2 4 k))
          (s (ix1 0)) (s (ix1 1)) (s (ix1 2)) (s (ix1 3)) (s (ix1 4)) (s (ix1 5)) (s (ix1 6)) (s (ix1 7))
          ((6693141 / 8388608 : ℝ) : EReal) ((12003091 / 268435456 : ℝ) : EReal)
          ((5316911940649 / 5316911983139663491615228241121378304 : ℝ) : EReal) d := by
  have hg (k : Fin 1024) : k0_pay9 x (ix2 q k) = Cert.Entry.actK ((6693141 / 8388608 : ℝ) : EReal) ((12003091 / 268435456 : ℝ) : EReal) (x (ix3 0 q k)) := by
    unfold k0_pay9
    pointwise [pay4_apply, pay5_apply, pay6_apply]
    rfl
  have hx (k : Fin 1024) : col (k0_pay4 x) k q.val = x (ix3 0 q k) := by
    rw [col_pay4, xcol, dif_pos q.isLt]
  unfold tile k0_pay1
  pointwise [hg]
  unfold k0_pay166 k0_pay167 k0_pay165 k0_pay168 k0_pay169 k0_pay13 k0_pay12 k0_pay11
  pointwise [hg, pay5_apply]
  simp only [pay7_eq, pay8_eq, pay10_eq, hone, hdir, mul_one, stat_apply r 0 (by omega), stat_apply r 1 (by omega), stat_apply r 2 (by omega),
    stat_apply r 3 (by omega), stat_apply r 4 (by omega), scal_apply s 0 (by omega), scal_apply s 1 (by omega), scal_apply s 2 (by omega),
    scal_apply s 3 (by omega), scal_apply s 4 (by omega), scal_apply s 5 (by omega), scal_apply s 6 (by omega), scal_apply s 7 (by omega),
    deviations_apply j hj _ _ _ tri c cq htri _ (col_pay5 x _) (col_pay6 x _), hx, mask_apply j hj]
  simp only [col_pay4]
  rfl

end Cert.KernelIdeal.Block

end
-- ==== Proof.Parts.lean ====
/-
  What the reference computes, named piece by piece: the tanh-form activation, the two normalised deviations, the scores made
  from them, the cosine against the stored direction, and the gated result.
-/
module

public import proofs.«01_k».proof.Proof.Gen.ReferenceIdeal.Run
public import Idealize.ShloMosaic.Lib.Pointwise

@[expose] public section

set_option maxRecDepth 16384

noncomputable section

namespace Cert.ReferenceIdeal.Parts

open Cert.ReferenceIdeal Cert.ReferenceIdeal.Gen Idealize.ShloMosaic

/-- A scalar. -/
abbrev Sc : Type := FVec Ideal S_ .f32
/-- A row of 1024. -/
abbrev Row : Type := FVec Ideal S1024 .f32
/-- One number per sequence and row. -/
abbrev Rows : Type := FVec Ideal S8x4096 .f32
/-- A full array. -/
abbrev Full : Type := FVec Ideal S8x4096x1024 .f32

/-- Softplus of a scalar. -/
def softplus (a : Sc) : Sc :=
  select (cmpf .une (subf a (constant S_ .f32 0x00000000#32)) (subf a (constant S_ .f32 0x00000000#32)))
    (addf a (constant S_ .f32 0x00000000#32))
    (addf (maximumf a (constant S_ .f32 0x00000000#32))
      (Host.log1p (Host.exp (Host.negf (Host.absf (subf a (constant S_ .f32 0x00000000#32)))))))

/-- The activation. -/
def out (x : Full) : Full :=
  mulf (mulf (broadcastInDim S8x4096x1024 ![] bcast_S_S8x4096x1024 (constant S_ .f32 0x3F000000#32)) x) (addf (broadcastInDim S8x4096x1024 ![] bcast_S_S8x4096x1024 (constant S_ .f32 0x3F800000#32)) (Host.tanh (mulf (broadcastInDim S8x4096x1024 ![] bcast_S_S8x4096x1024 (constant S_ .f32 0x3F4C422A#32)) (addf x (mulf (mulf (mulf (broadcastInDim S8x4096x1024 ![] bcast_S_S8x4096x1024 (constant S_ .f32 0x3D372713#32)) x) x) x)))))

/-- The sum of the rows before each row. -/
def before (x : Full) : Full :=
  concatenate S8x4096x1024 1 [⟨S8x1x1024, broadcastInDim S8x1x1024 ![] bcast_S_S8x1x1024 (constant (F := Ideal) S_ .f32 0x00000000#32)⟩, ⟨S8x4095x1024, (extractStridedSlice S8x4095x1024 ![0, 0, 0] (Host.reduceWindowAdd ![1, 4096, 1] ![1, 1, 1] ![0, 4095, 0] ![0, 0, 0] x (broadcastInDim S_ ![] bcast_S_S_ (constant S_ .f32 0x00000000#32)) reduceWindows_S8x4096x1024_S8x4096x1024_w1s1p0_0_w4096s1p4095_0_w1s1p0_0 h_S_) slices_S8x4096x1024_S8x4095x1024_0_0_0)⟩] concatenates_S8x1x1024_S8x4095x1024_S8x4096x1024_d1

/-- The number of rows before each row, at least one. -/
def cnt : Full :=
  broadcastInDim S8x4096x1024 ![0, 1, 2] bcast_S1x4096x1_S8x4096x1024_0_1_2 (shapeCast S1x4096x1 (maximumf (broadcastInDim S4096 ![] bcast_S_S4096 (id (constant (F := Ideal) S_ .f32 0x3F800000#32))) (sitofp .f32 (iotaInDim S4096 32 0))) shapeCasts_S4096_S1x4096x1)

/-- The mean of the rows before each row. -/
def mean (x : Full) : Full := Host.divf (before x) cnt

/-- The deviation from the stored mean over the stored deviation. -/
def z1 (x : Full) (m s : Row) : Full :=
  Host.divf (subf x (broadcastInDim S8x4096x1024 ![0, 1, 2] bcast_S1x1x1024_S8x4096x1024_0_1_2 (broadcastInDim S1x1x1024 ![2] bcast_S1024_S1x1x1024_2 m))) (broadcastInDim S8x4096x1024 ![0, 1, 2] bcast_S1x1x1024_S8x4096x1024_0_1_2 (broadcastInDim S1x1x1024 ![2] bcast_S1024_S1x1x1024_2 (addf (Host.sqrt (maximumf (broadcastInDim S1024 ![] bcast_S_S1024 (id (constant S_ .f32 0x38D1B717#32))) (subf s (mulf m m)))) (broadcastInDim S1024 ![] bcast_S_S1024 (constant S_ .f32 0x3727C5AC#32)))))

/-- The deviation from the mean of the rows before, over their standard deviation. -/
def local_ (x : Full) : Full :=
  Host.divf (subf x (mean x)) (Host.sqrt (maximumf (broadcastInDim S8x4096x1024 ![] bcast_S_S8x4096x1024 (id (constant S_ .f32 0x38D1B717#32))) (subf (Host.divf (before (mulf x x)) cnt) (mulf (mean x) (mean x)))))

/-- The same with the first row of each sequence set to zero. -/
def z3 (x : Full) : Full :=
  Host.scatter scatter_S8x4096x1024_S1_S8x1024_01_1_1_0 (fun _ b => b) (local_ x) (broadcastInDim S1 ![] bcast_S_S1 (constantI S_ 32 0#32)) (broadcastInDim S8x1024 ![] bcast_S_S8x1024 (constant S_ .f32 0x00000000#32))

/-- The score of a deviation: the mean of its absolute values along the row, weighted, squashed and raised to a power. -/
def score (s a : Sc) (z : Full) : Rows :=
  Host.powf (maximumf (broadcastInDim S8x4096 ![] bcast_S_S8x4096 (id (constant S_ .f32 0x33D6BF95#32))) (Host.tanh (mulf (broadcastInDim S8x4096 ![] bcast_S_S8x4096 (softplus s)) (Host.divf (Host.reduceAdd (Host.absf z) (constant S_ .f32 0x00000000#32) reducesTo_S8x4096x1024_S8x4096_d2 h_S_) (broadcastInDim S8x4096 ![] bcast_S_S8x4096 (constant S_ .f32 0x44800000#32)))))) (broadcastInDim S8x4096 ![] bcast_S_S8x4096 (softplus a))

/-- The score of the two stored variances. -/
def burst (s a : Sc) (vf vs : Row) : Sc :=
  Host.powf (maximumf (id (constant S_ .f32 0x33D6BF95#32)) (Host.tanh (mulf (softplus s) (maximumf (subf (Host.divf (Host.reduceAdd (minimumf (broadcastInDim S1024 ![] bcast_S_S1024 (id (constant S_ .f32 0x41200000#32))) (Host.divf vf (maximumf (broadcastInDim S1024 ![] bcast_S_S1024 (id (constant S_ .f32 0x38D1B717#32))) vs))) (constant S_ .f32 0x00000000#32) reducesTo_S1024_S_d0 h_S_) (constant S_ .f32 0x44800000#32)) (constant S_ .f32 0x3F800000#32)) (constant S_ .f32 0x00000000#32))))) (softplus a)

/-- The product of the three scores. -/
def joint (x : Full) (m s vf vs : Row) (s1 s2 s3 a1 a2 a3 : Sc) : Rows :=
  mulf (mulf (score s1 a1 (z1 x m s)) (broadcastInDim S8x4096 ![] bcast_S_S8x4096 (burst s2 a2 vf vs))) (score s3 a3 (z3 x))

/-- The cosine of each row of `o` against the direction `e`. -/
def cosine (o : Full) (e : Row) : Rows :=
  Host.reduceAdd (mulf (Host.divf o (broadcastInDim S8x4096x1024 ![0, 1, 2] bcast_S8x4096x1_S8x4096x1024_0_1_2 (maximumf (Host.sqrt (broadcastInDim S8x4096x1 ![0, 1] bcast_S8x4096_S8x4096x1_0_1 (Host.reduceAdd (mulf o o) (constant S_ .f32 0x00000000#32) reducesTo_S8x4096x1024_S8x4096_d2 h_S_))) (broadcastInDim S8x4096x1 ![] bcast_S_S8x4096x1 (constant S_ .f32 0x2B8CBCCC#32))))) (broadcastInDim S8x4096x1024 ![0, 1, 2] bcast_S1x1x1024_S8x4096x1024_0_1_2 (broadcastInDim S1x1x1024 ![2] bcast_S1024_S1x1x1024_2 (Host.divf e (broadcastInDim S1024 ![] bcast_S_S1024 (maximumf (Host.sqrt (Host.reduceAdd (mulf e e) (constant S_ .f32 0x00000000#32) reducesTo_S1024_S_d0 h_S_)) (constant S_ .f32 0x2B8CBCCC#32))))))) (constant S_ .f32 0x00000000#32) reducesTo_S8x4096x1024_S8x4096_d2 h_S_

/-- The gated result, from the activation, the direction, the joint score and the two scalars. -/
def gated (o : Full) (e : Row) (j : Rows) (tau w : Sc) : Full :=
  mulf o (broadcastInDim S8x4096x1024 ![0, 1, 2] bcast_S8x4096x1_S8x4096x1024_0_1_2 (broadcastInDim S8x4096x1 ![0, 1] bcast_S8x4096_S8x4096x1_0_1 (mulf (Host.exp (mulf (broadcastInDim S8x4096 ![] bcast_S_S8x4096 (Host.negf (Host.exp tau))) (minimumf (broadcastInDim S8x4096 ![] bcast_S_S8x4096 (id (constant S_ .f32 0x3F800000#32))) (maximumf (broadcastInDim S8x4096 ![] bcast_S_S8x4096 (id (constant S_ .f32 0xBF800000#32))) (cosine o e))))) (addf (broadcastInDim S8x4096 ![] bcast_S_S8x4096 (constant S_ .f32 0x3F800000#32)) (mulf (broadcastInDim S8x4096 ![] bcast_S_S8x4096 (softplus w)) j)))))

/-- The reference's result from its fourteen inputs. -/
def result (x : Full) (m s e vf vs : Row) (tau s1 s2 s3 w a1 a2 a3 : Sc) : Full :=
  gated (out x) e (joint x m s vf vs s1 s2 s3 a1 a2 a3) tau w

end Cert.ReferenceIdeal.Parts

end
-- ==== Proof.Arrays.lean ====
/-
  The four small arrays that the kernel is handed beside `x`: eight scalars, five rows of statistics, the pair of columns
  (ones, direction), and the strictly lower triangle of ones.
-/
module

public import proofs.«01_k».proof.Proof.Gen.KernelIdeal.Value
public import proofs.«01_k».proof.Proof.Parts
public import proofs.«01_k».proof.Proof.Rows
public import Idealize.ShloMosaic.Lib.StableHlo.RunRead
public import Idealize.ShloMosaic.Lib.Claim

@[expose] public section

set_option maxRecDepth 16384

noncomputable section

namespace Cert.KernelIdeal.Arrays

open Cert.KernelIdeal Cert.KernelIdeal.Gen Idealize.ShloMosaic

open Idealize.ShloMosaic.TcCoe

/-- The eight scalars: an exponential and seven softplus values. -/
def scalars (tau s1 s2 s3 w a1 a2 a3 : FVec Ideal S_ .f32) : FVec Ideal S8 .f32 :=
  concatenate S8 0 [⟨S1, broadcastInDim S1 ![] bcast_S_S1 (Host.exp tau)⟩,
    ⟨S1, broadcastInDim S1 ![] bcast_S_S1 (Cert.ReferenceIdeal.Parts.softplus s1)⟩,
    ⟨S1, broadcastInDim S1 ![] bcast_S_S1 (Cert.ReferenceIdeal.Parts.softplus s2)⟩,
    ⟨S1, broadcastInDim S1 ![] bcast_S_S1 (Cert.ReferenceIdeal.Parts.softplus s3)⟩,
    ⟨S1, broadcastInDim S1 ![] bcast_S_S1 (Cert.ReferenceIdeal.Parts.softplus w)⟩,
    ⟨S1, broadcastInDim S1 ![] bcast_S_S1 (Cert.ReferenceIdeal.Parts.softplus a1)⟩,
    ⟨S1, broadcastInDim S1 ![] bcast_S_S1 (Cert.ReferenceIdeal.Parts.softplus a2)⟩,
    ⟨S1, broadcastInDim S1 ![] bcast_S_S1 (Cert.ReferenceIdeal.Parts.softplus a3)⟩] concatenates_S1_S1_S1_S1_S1_S1_S1_S1_S8_d0

/-- The five rows of statistics. -/
def stats (r0 r1 r2 r3 r4 : FVec Ideal S1024 .f32) : FVec Ideal S5x1024 .f32 :=
  concatenate S5x1024 0 [⟨S1x1024, broadcastInDim S1x1024 ![1] bcast_S1024_S1x1024_1 r0⟩,
    ⟨S1x1024, broadcastInDim S1x1024 ![1] bcast_S1024_S1x1024_1 r1⟩,
    ⟨S1x1024, broadcastInDim S1x1024 ![1] bcast_S1024_S1x1024_1 r2⟩,
    ⟨S1x1024, broadcastInDim S1x1024 ![1] bcast_S1024_S1x1024_1 r3⟩,
    ⟨S1x1024, broadcastInDim S1x1024 ![1] bcast_S1024_S1x1024_1 r4⟩] concatenates_S1x1024_S1x1024_S1x1024_S1x1024_S1x1024_S5x1024_d0

/-- A column of ones beside the stored direction. -/
def pair (e : FVec Ideal S1024 .f32) : FVec Ideal S1024x2 .bf16 :=
  truncf .bf16 (concatenate S1024x2 1 [⟨S1024x1, broadcastInDim S1024x1 ![0] bcast_S1024_S1024x1_0 (broadcastInDim S1024 ![] bcast_S_S1024 (constant (F := Ideal) S_ .f32 0x3F800000#32))⟩, ⟨S1024x1, broadcastInDim S1024x1 ![0] bcast_S1024_S1024x1_0 e⟩] concatenates_S1024x1_S1024x1_S1024x2_d1) bitsLt_bf16_f32

/-- Ones strictly below the diagonal. -/
def lower : FVec Ideal S64x64 .bf16 :=
  uitofp .bf16 (cmpi .slt (broadcastInDim S64x64 ![0, 1] bcast_S1x64_S64x64_0_1 (broadcastInDim S1x64 ![1] bcast_S64_S1x64_1 (iotaInDim S64 32 0)))
    (broadcastInDim S64x64 ![0, 1] bcast_S64x1_S64x64_0_1 (broadcastInDim S64x1 ![0] bcast_S64_S64x1_0 (iotaInDim S64 32 0))))

variable (m : (ℓ : Loc nD τ sig) → Buf (Elt Ideal) ℓ)

set_option maxHeartbeats 2000000 in
/-- The first array the kernel is handed holds the eight scalars. -/
theorem V_scalars (c : Dev nD) : V m c main_v16 = scalars (m (c.tc.loc main_arg6)) (m (c.tc.loc main_arg7)) (m (c.tc.loc main_arg8)) (m (c.tc.loc main_arg9))
    (m (c.tc.loc main_arg10)) (m (c.tc.loc main_arg11)) (m (c.tc.loc main_arg12)) (m (c.tc.loc main_arg13)) := by
  unfold_abbrev_sides
  after_reads_simp
  rfl

/-- The second array holds the five rows of statistics. -/
theorem V_stats (c : Dev nD) : V m c main_v22 = stats (m (c.tc.loc main_arg1)) (m (c.tc.loc main_arg2)) (m (c.tc.loc main_arg3)) (m (c.tc.loc main_arg4))
    (m (c.tc.loc main_arg5)) := by
  unfold_abbrev_sides
  after_reads_simp
  rfl

/-- The third array holds the ones and the stored direction. -/
theorem V_pair (c : Dev nD) : V m c main_v27 = pair (m (c.tc.loc main_arg3)) := by
  unfold_abbrev_sides
  after_reads_simp
  rfl

/-- The fourth array holds the triangle. -/
theorem V_lower (c : Dev nD) : V m c main_v34 = lower := by
  unfold_abbrev_sides
  after_reads_simp
  rfl

/-- The eight scalars, read one by one. -/
theorem scalars_apply (tau s1 s2 s3 w a1 a2 a3 : FVec Ideal S_ .f32) :
    scalars tau s1 s2 s3 w a1 a2 a3 (ix1 0) = Ideal.exp (tau ix0)
    ∧ scalars tau s1 s2 s3 w a1 a2 a3 (ix1 1) = Cert.ReferenceIdeal.Parts.softplus s1 ix0
    ∧ scalars tau s1 s2 s3 w a1 a2 a3 (ix1 2) = Cert.ReferenceIdeal.Parts.softplus s2 ix0
    ∧ scalars tau s1 s2 s3 w a1 a2 a3 (ix1 3) = Cert.ReferenceIdeal.Parts.softplus s3 ix0
    ∧ scalars tau s1 s2 s3 w a1 a2 a3 (ix1 4) = Cert.ReferenceIdeal.Parts.softplus w ix0
    ∧ scalars tau s1 s2 s3 w a1 a2 a3 (ix1 5) = Cert.ReferenceIdeal.Parts.softplus a1 ix0
    ∧ scalars tau s1 s2 s3 w a1 a2 a3 (ix1 6) = Cert.ReferenceIdeal.Parts.softplus a2 ix0
    ∧ scalars tau s1 s2 s3 w a1 a2 a3 (ix1 7) = Cert.ReferenceIdeal.Parts.softplus a3 ix0 := by
  unfold scalars
  refine ⟨?_, ?_, ?_, ?_, ?_, ?_, ?_, ?_⟩ <;> pointwise

/-- The five rows, read at a column. -/
theorem stats_apply (r0 r1 r2 r3 r4 : FVec Ideal S1024 .f32) (k : Fin 1024) :
    stats r0 r1 r2 r3 r4 (ix2 0 k) = r0 (ix1 k) ∧ stats r0 r1 r2 r3 r4 (ix2 1 k) = r1 (ix1 k)
    ∧ stats r0 r1 r2 r3 r4 (ix2 2 k) = r2 (ix1 k) ∧ stats r0 r1 r2 r3 r4 (ix2 3 k) = r3 (ix1 k)
    ∧ stats r0 r1 r2 r3 r4 (ix2 4 k) = r4 (ix1 k) := by
  unfold stats
  refine ⟨?_, ?_, ?_, ?_, ?_⟩ <;> pointwise

/-- The two columns, read at a row. -/
theorem pair_apply (e : FVec Ideal S1024 .f32) (k : Fin 1024) : pair e (ix2 k 0) = 1 ∧ pair e (ix2 k 1) = e (ix1 k) := by
  unfold pair
  constructor <;> pointwise

/-- The triangle at row `r` and column `k`. -/
theorem lower_apply (r k : Fin 64) : lower (ix2 r k) = if k.val < r.val then 1 else 0 := by
  unfold lower
  pointwise
  have hk : (BitVec.ofNat 32 k.val).toInt = k.val := Block.toInt_ofNat k.val (by omega)
  have hr : (BitVec.ofNat 32 r.val).toInt = r.val := Block.toInt_ofNat r.val (by omega)
  show (((IntOp.cmpi CmpIPredicate.slt (BitVec.ofNat 32 k.val) (BitVec.ofNat 32 r.val)).toNat : ℝ) : EReal) = _
  simp only [IntOp.cmpi, BitVec.slt, hk, hr, Nat.cast_lt]
  by_cases h : k.val < r.val
  · simp [h]
  · simp [h]

end Cert.KernelIdeal.Arrays

end
-- ==== Proof.Read.lean ====
/-
  The pieces of the reference read at an entry: sequence `b`, row `t`, column `k`.
-/
module

public import proofs.«01_k».proof.Proof.Parts
public import proofs.«01_k».proof.Proof.Entry
public import Idealize.ShloMosaic.Lib.Routing.OpsSet

@[expose] public section

set_option maxRecDepth 16384

noncomputable section

namespace Cert.ReferenceIdeal.Parts

open Cert.ReferenceIdeal Cert.ReferenceIdeal.Gen Idealize.ShloMosaic

/-- The activation at an entry. -/
theorem out_apply (x : Full) (b : Fin 8) (t : Fin 4096) (k : Fin 1024) : out x (ix3 b t k) = Cert.Entry.act (x (ix3 b t k)) := by
  unfold out Cert.Entry.act
  pointwise

/-- Column `k` of sequence `b` as a sequence over row numbers, zero past the end. -/
def seqCol (x : Full) (b : Fin 8) (k : Fin 1024) (i : ℕ) : EReal :=
  if h : i < 4096 then x (ix3 b ⟨i, h⟩ k) else 0

/-- A fold that adds is a sum. -/
theorem foldl_add (n : ℕ) (g : Fin n → EReal) (a : EReal) :
    (List.finRange n).foldl (fun r i => r + g i) a = a + ∑ i, g i := by
  rw [← List.sum_ofFn, List.ofFn_eq_map, ← List.foldl_map (f := g) (g := fun r v => r + v)]
  generalize (List.finRange n).map g = l
  induction l generalizing a with
  | nil => simp
  | cons v l ih => rw [List.foldl_cons, ih, List.sum_cons, add_assoc]

/-- A window of `N` ending at row `t` sums the rows up to `t`: the earlier part of the window is padding. -/
theorem sum_window (g : ℕ → EReal) (N t : ℕ) (ht : t < N) :
    (∑ w ∈ Finset.range N, if N - 1 ≤ t + w then g (t + w - (N - 1)) else 0) = ∑ i ∈ Finset.range (t + 1), g i := by
  have e : N = (N - 1 - t) + (t + 1) := by omega
  conv_lhs => rw [e, Finset.sum_range_add]
  rw [← e, Finset.sum_eq_zero, zero_add]
  · refine Finset.sum_congr rfl fun i hi => ?_
    have := Finset.mem_range.mp hi
    rw [if_pos (by omega)]
    congr 1
    omega
  · intro w hw
    have := Finset.mem_range.mp hw
    exact if_neg (by omega)

/-- The running sum at row `t`: the rows up to and including `t`. -/
theorem cumsum_apply (x : Full) (b : Fin 8) (t : Fin 4096) (k : Fin 1024) :
    Host.reduceWindowAdd ![1, 4096, 1] ![1, 1, 1] ![0, 4095, 0] ![0, 0, 0] x (broadcastInDim S_ ![] bcast_S_S_ (constant S_ .f32 0x00000000#32)) reduceWindows_S8x4096x1024_S8x4096x1024_w1s1p0_0_w4096s1p4095_0_w1s1p0_0 h_S_ (ix3 b t k)
      = ∑ i ∈ Finset.range (t.val + 1), seqCol x b k i := by
  have hz : (broadcastInDim S_ ![] bcast_S_S_ (constant (F := Ideal) S_ .f32 0x00000000#32)) (Shape.Idx.first h_S_) = (0 : EReal) := by
    rw [← ix0_eta (Shape.Idx.first h_S_)]
    pointwise
  unfold Host.reduceWindowAdd
  rw [hz, Ideal.hostReduceWindowAdd_def, Ideal.hostReduceWindowAdd, Host.reduceWindow]
  dsimp only
  rw [foldl_add, zero_add, ← sum_window (seqCol x b k) 4096 t.val t.isLt,
    ← Fin.sum_univ_eq_sum_range (fun w => if 4096 - 1 ≤ t.val + w then seqCol x b k (t.val + w - (4096 - 1)) else 0)]
  rw [Fintype.sum_equiv (Shape.rowMajor (⟨3, ![1, 4096, 1]⟩ : Shape)).symm _
    (fun p => if 4096 - 1 ≤ t.val + (p 1).val then seqCol x b k (t.val + (p 1).val - (4096 - 1)) else 0) fun i => ?_]
  · rw [sum_idx3]
    simp only [Fin.sum_univ_one]
    rfl
  · let p : (⟨3, ![1, 4096, 1]⟩ : Shape).Idx := (Shape.rowMajor (⟨3, ![1, 4096, 1]⟩ : Shape)).symm i
    have p0 : (p 0).val = 0 := by have := (p 0).isLt; exact Nat.lt_one_iff.mp this
    have p2 : (p 2).val = 0 := by have := (p 2).isLt; exact Nat.lt_one_iff.mp this
    have p1 : (p 1).val < 4096 := (p 1).isLt
    by_cases h : 4096 - 1 ≤ t.val + (p 1).val
    · have hl : t.val + (p 1).val - (4096 - 1) < 4096 := by omega
      have hr : seqCol x b k (t.val + (p 1).val - (4096 - 1)) = x (ix3 b ⟨_, hl⟩ k) := dif_pos hl
      refine Eq.trans (dif_pos ?_) (Eq.trans (congrArg x (funext fun a => Fin.ext ?_)) ((if_pos h).trans hr).symm)
      rotate_left
      · fin_cases a
        · show b.val * 1 + (p 0).val - 0 = b.val
          omega
        · show t.val * 1 + (p 1).val - 4095 = t.val + (p 1).val - (4096 - 1)
          omega
        · show k.val * 1 + (p 2).val - 0 = k.val
          omega
      · intro a
        fin_cases a
        · show 0 ≤ b.val * 1 + (p 0).val ∧ b.val * 1 + (p 0).val - 0 < 8
          omega
        · show 4095 ≤ t.val * 1 + (p 1).val ∧ t.val * 1 + (p 1).val - 4095 < 4096
          omega
        · show 0 ≤ k.val * 1 + (p 2).val ∧ k.val * 1 + (p 2).val - 0 < 1024
          omega
    · refine (dif_neg fun hin => ?_).trans (if_neg h).symm
      have h1 : 4095 ≤ t.val * 1 + (p 1).val := (hin 1).1
      omega

/-- The sum of the rows before row `t`. -/
theorem before_apply (x : Full) (b : Fin 8) (t : Fin 4096) (k : Fin 1024) :
    before x (ix3 b t k) = ∑ i ∈ Finset.range t.val, seqCol x b k i := by
  unfold before
  pointwise
  split
  · next h => rw [show t.val = 0 by omega]; rfl
  · next h =>
    rw [cumsum_apply]
    congr 2
    exact Nat.sub_add_cancel (by omega)

/-- The number of rows before row `t`, at least one. -/
theorem cnt_apply (b : Fin 8) (t : Fin 4096) (k : Fin 1024) : cnt (ix3 b t k) = ((max t.val 1 : ℕ) : ℝ) := by
  unfold cnt
  pointwise [id]
  have e : (FloatOps.sitofp (F := Ideal) .f32 (BitVec.ofNat 32 t.val) : EReal) = ((t.val : ℝ) : EReal) := by
    show (((BitVec.ofNat 32 t.val).toInt : ℝ) : EReal) = _
    have h : (BitVec.ofNat 32 t.val).toNat = t.val := by rw [BitVec.toNat_ofNat]; omega
    rw [BitVec.toInt_eq_toNat_of_lt (by omega), h]
    rfl
  rw [e, max_comm, ← EReal.coe_one, ← Cert.Entry.max_coe, Nat.cast_max, Nat.cast_one]

/-- The first deviation at an entry. -/
theorem z1_apply (x : Full) (m s : Row) (b : Fin 8) (t : Fin 4096) (k : Fin 1024) :
    z1 x m s (ix3 b t k) = Cert.Entry.dev1 (x (ix3 b t k)) (m (ix1 k)) (s (ix1 k)) := by
  unfold z1 Cert.Entry.dev1
  pointwise [id]

/-- A column of the squares is the squares of the column. -/
theorem seqCol_sq (x : Full) (b : Fin 8) (k : Fin 1024) (i : ℕ) : seqCol (mulf x x) b k i = seqCol x b k i * seqCol x b k i := by
  unfold seqCol
  split
  · rfl
  · exact (mul_zero _).symm

/-- The local deviation at an entry, before the first row is overwritten. -/
theorem local_apply (x : Full) (b : Fin 8) (t : Fin 4096) (k : Fin 1024) :
    local_ x (ix3 b t k) = Cert.Entry.dev3 ((max t.val 1 : ℕ) : ℝ) (x (ix3 b t k)) (∑ i ∈ Finset.range t.val, seqCol x b k i)
      (∑ i ∈ Finset.range t.val, seqCol x b k i * seqCol x b k i) := by
  unfold local_ mean Cert.Entry.dev3
  pointwise [id, before_apply, cnt_apply]
  simp only [seqCol_sq]

/-- The first row is overwritten with zeros, every other row kept. -/
theorem z3_apply (x : Full) (b : Fin 8) (t : Fin 4096) (k : Fin 1024) :
    z3 x (ix3 b t k) = if t.val = 0 then 0 else Cert.Entry.dev3 ((max t.val 1 : ℕ) : ℝ) (x (ix3 b t k))
      (∑ i ∈ Finset.range t.val, seqCol x b k i) (∑ i ∈ Finset.range t.val, seqCol x b k i * seqCol x b k i) := by
  unfold z3
  have lands (j : S8x1024.Idx) : scatter_S8x4096x1024_S1_S8x1024_01_1_1_0.resultIdx? j (broadcastInDim S1 ![] bcast_S_S1 (constantI S_ 32 0#32)) = some (ix3 b t k)
      ↔ j = ix2 b k ∧ t.val = 0 := by
    rw [Routing.resultIdx?_eq_some]
    have hs : ∀ a, scatter_S8x4096x1024_S1_S8x1024_01_1_1_0.start j (broadcastInDim S1 ![] bcast_S_S1 (constantI S_ 32 0#32)) a = 0 := by
      intro a
      unfold ScatterDims.start
      split <;> rfl
    have h0 : scatter_S8x4096x1024_S1_S8x1024_01_1_1_0.window j 0 = (j 0).val := rfl
    have h1 : scatter_S8x4096x1024_S1_S8x1024_01_1_1_0.window j 1 = 0 := rfl
    have h2 : scatter_S8x4096x1024_S1_S8x1024_01_1_1_0.window j 2 = (j 1).val := rfl
    constructor
    · intro h
      have a0 := h 0
      have a1 := h 1
      have a2 := h 2
      rw [hs, h0] at a0
      rw [hs, h1] at a1
      rw [hs, h2] at a2
      have b0 : (j 0).val = b.val := by have : ((ix3 b t k 0).val) = b.val := rfl; omega
      have b1 : t.val = 0 := by have : ((ix3 b t k 1).val) = t.val := rfl; omega
      have b2 : (j 1).val = k.val := by have : ((ix3 b t k 2).val) = k.val := rfl; omega
      refine ⟨funext fun a => Fin.ext ?_, b1⟩
      fin_cases a
      · exact b0
      · exact b2
    · rintro ⟨rfl, ht⟩ a
      rw [hs]
      fin_cases a
      · show (0 : ℤ) + (b.val : ℤ) = (b.val : ℤ)
        omega
      · show (0 : ℤ) + (0 : ℤ) = (t.val : ℤ)
        omega
      · show (0 : ℤ) + (k.val : ℤ) = (k.val : ℤ)
        omega
  by_cases h : t.val = 0
  · rw [if_pos h, Routing.scatter_set_hit _ _ _ _ _ (0 : EReal) (fun j hj => ?_) (ix2 b k) ((lands _).mpr ⟨rfl, h⟩)]
    rw [((lands j).mp hj).1]
    pointwise
  · rw [if_neg h, Routing.scatter_set_miss _ _ _ _ _ fun j hj => h ((lands j).mp hj).2, local_apply]

/-- The score at a row, over the deviations of that row. -/
theorem score_apply (s a : Sc) (z : Full) (b : Fin 8) (t : Fin 4096) :
    score s a z (ix2 b t) = Cert.Entry.score (softplus s ix0) (softplus a ix0) (fun k => FloatOps.absf (F := Ideal) (φ := .f32) (z (ix3 b t k))) := by
  unfold score Cert.Entry.score
  pointwise [id]

/-- The burst score. -/
theorem burst_apply (s a : Sc) (vf vs : Row) :
    burst s a vf vs ix0 = Cert.Entry.burst (softplus s ix0) (softplus a ix0) (fun k => vf (ix1 k)) (fun k => vs (ix1 k)) := by
  unfold burst Cert.Entry.burst
  pointwise [id]

/-- The cosine at a row. -/
theorem cosine_apply (o : Full) (e : Row) (b : Fin 8) (t : Fin 4096) :
    cosine o e (ix2 b t) = Cert.Entry.cosine (fun k => o (ix3 b t k)) (fun k => e (ix1 k)) := by
  unfold cosine Cert.Entry.cosine
  pointwise

/-- The reference's result at an entry. -/
theorem result_apply (x : Full) (m s e vf vs : Row) (tau s1 s2 s3 w a1 a2 a3 : Sc) (b : Fin 8) (t : Fin 4096) (k : Fin 1024) :
    result x m s e vf vs tau s1 s2 s3 w a1 a2 a3 (ix3 b t k)
      = Cert.Entry.referenceEntry (fun l => x (ix3 b t l)) (t.val = 0) ((max t.val 1 : ℕ) : ℝ)
          (fun l => ∑ i ∈ Finset.range t.val, seqCol x b l i)
          (fun l => ∑ i ∈ Finset.range t.val, seqCol x b l i * seqCol x b l i)
          (fun l => m (ix1 l)) (fun l => s (ix1 l)) (fun l => e (ix1 l)) (fun l => vf (ix1 l)) (fun l => vs (ix1 l))
          (Ideal.exp (tau ix0)) (softplus s1 ix0) (softplus s2 ix0) (softplus s3 ix0) (softplus w ix0)
          (softplus a1 ix0) (softplus a2 ix0) (softplus a3 ix0) k := by
  unfold result gated joint Cert.Entry.referenceEntry
  pointwise [id, out_apply, cosine_apply, score_apply, burst_apply, z1_apply, z3_apply]

end Cert.ReferenceIdeal.Parts

end
-- ==== Proof.Fold.lean ====
/-
  The grid point `t` works on row block `t % 4` of sequence `t / 4`. What it is handed, what it carries from the row blocks
  before, and what the output array ends holding.
-/
module

public import proofs.«01_k».proof.Proof.Case
public import proofs.«01_k».proof.Proof.Tile
public import proofs.«01_k».proof.Proof.Arrays
public import proofs.«01_k».proof.Proof.Read

@[expose] public section

set_option maxRecDepth 16384

noncomputable section

namespace Cert.KernelIdeal.Fold

open Cert.KernelIdeal Cert.KernelIdeal.Gen Cert.KernelIdeal.Block Idealize.ShloMosaic

open Idealize.ShloMosaic.TcCoe Idealize.SL.Sem
open Cert.ReferenceIdeal.Parts (seqCol)

variable (m : (ℓ : Loc nD τ sig) → Buf (Elt Ideal) ℓ)

/-- The input array. -/
abbrev input (c : Dev nD) : FVec Ideal S8x4096x1024 .f32 := m (c.tc.loc main_arg0)

/-- There are 32 grid points. -/
theorem points (t : Fin cfg0.N) : t.val < 32 := lt_of_lt_of_eq t.isLt N_0

/-- The sequence a point works on. -/
def seqOf (t : Fin cfg0.N) : Fin 8 := ⟨t.val / 4, by have := points t; omega⟩

/-- The row of the sequence at row `q` of a point's block. -/
def rowOf (t : Fin cfg0.N) (q : Fin 1024) : Fin 4096 := ⟨1024 * (t.val % 4) + q.val, by omega⟩

/-- The second grid coordinate is the row block's number. -/
theorem coord_one : ∀ t : Fin cfg0.N, (grid0.coords t 1).val = t.val % 4 :=
  (by decide +kernel : ∀ t : Fin grid0.N, (grid0.coords t 1).val = t.val % 4)

/-- The scalars are one block. -/
theorem index_0 : ∀ t : Fin cfg0.N, win0_0.index t (0 : Fin 1) = 0 := (by decide +kernel : ∀ t : Fin grid0.N, _)
/-- The rows of statistics are one block. -/
theorem index_1 : ∀ t : Fin cfg0.N, win0_1.index t (0 : Fin 2) = 0 ∧ win0_1.index t (1 : Fin 2) = 0 := (by decide +kernel : ∀ t : Fin grid0.N, _)
/-- The pair of columns is one block. -/
theorem index_2 : ∀ t : Fin cfg0.N, win0_2.index t (0 : Fin 2) = 0 ∧ win0_2.index t (1 : Fin 2) = 0 := (by decide +kernel : ∀ t : Fin grid0.N, _)
/-- The triangle is one block. -/
theorem index_3 : ∀ t : Fin cfg0.N, win0_3.index t (0 : Fin 2) = 0 ∧ win0_3.index t (1 : Fin 2) = 0 := (by decide +kernel : ∀ t : Fin grid0.N, _)
/-- The input's block at a point: its sequence, its row block, all columns. -/
theorem index_4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)

/-- Every point is handed all eight scalars. -/
theorem block_0 (c : Dev nD) (t : Fin cfg0.N) (k : Fin 8) : (iblk m c 0 t : Vec Ideal S8 .f32) (ix1 k) = (V m c main_v16 : Vec Ideal S8 .f32) (ix1 k) := by
  have h := index_0 t
  show (V m c main_v16 : Vec Ideal S8 .f32) (((cfg0.win 0).blk t).view.emb (ix1 k)) = _
  refine congrArg (V m c main_v16 : Vec Ideal S8 .f32) (funext fun a => Fin.ext ?_)
  fin_cases a
  show win0_0.index t (0 : Fin 1) * 8 + 1 * k.val = k.val
  omega

/-- Every point is handed all five rows. -/
theorem block_1 (c : Dev nD) (t : Fin cfg0.N) (r : Fin 5) (k : Fin 1024) : (iblk m c 1 t : Vec Ideal S5x1024 .f32) (ix2 r k) = (V m c main_v22 : Vec Ideal S5x1024 .f32) (ix2 r k) := by
  have h := index_1 t
  show (V m c main_v22 : Vec Ideal S5x1024 .f32) (((cfg0.win 1).blk t).view.emb (ix2 r k)) = _
  refine congrArg (V m c main_v22 : Vec Ideal S5x1024 .f32) (funext fun a => Fin.ext ?_)
  fin_cases a
  · show win0_1.index t (0 : Fin 2) * 5 + 1 * r.val = r.val
    omega
  · show win0_1.index t (1 : Fin 2) * 1024 + 1 * k.val = k.val
    omega

/-- Every point is handed the pair of columns whole. -/
theorem block_2 (c : Dev nD) (t : Fin cfg0.N) (k : Fin 1024) (r : Fin 2) : (iblk m c 2 t : Vec Ideal S1024x2 .bf16) (ix2 k r) = (V m c main_v27 : Vec Ideal S1024x2 .bf16) (ix2 k r) := by
  have h := index_2 t
  show (V m c main_v27 : Vec Ideal S1024x2 .bf16) (((cfg0.win 2).blk t).view.emb (ix2 k r)) = _
  refine congrArg (V m c main_v27 : Vec Ideal S1024x2 .bf16) (funext fun a => Fin.ext ?_)
  fin_cases a
  · show win0_2.index t (0 : Fin 2) * 1024 + 1 * k.val = k.val
    omega
  · show win0_2.index t (1 : Fin 2) * 2 + 1 * r.val = r.val
    omega

/-- Every point is handed the triangle whole. -/
theorem block_3 (c : Dev nD) (t : Fin cfg0.N) (r k : Fin 64) : (iblk m c 3 t : Vec Ideal S64x64 .bf16) (ix2 r k) = (V m c main_v34 : Vec Ideal S64x64 .bf16) (ix2 r k) := by
  have h := index_3 t
  show (V m c main_v34 : Vec Ideal S64x64 .bf16) (((cfg0.win 3).blk t).view.emb (ix2 r k)) = _
  refine congrArg (V m c main_v34 : Vec Ideal S64x64 .bf16) (funext fun a => Fin.ext ?_)
  fin_cases a
  · show win0_3.index t (0 : Fin 2) * 64 + 1 * r.val = r.val
    omega
  · show win0_3.index t (1 : Fin 2) * 64 + 1 * k.val = k.val
    omega

/-- A point is handed its row block of its sequence. -/
theorem block_4 (c : Dev nD) (t : Fin cfg0.N) (q k : Fin 1024) :
    (iblk m c 4 t : Vec Ideal S1x1024x1024 .f32) (ix3 0 q k) = input m c (ix3 (seqOf t) (rowOf t q) k) := by
  obtain ⟨h0, h1, h2⟩ := index_4 t
  refine Eq.trans (?_ : _ = (V m c main_arg0 : Vec Ideal S8x4096x1024 .f32) (ix3 (seqOf t) (rowOf t q) k)) (congrFun (V_main_arg0 m c) _)
  show (V m c main_arg0 : Vec Ideal S8x4096x1024 .f32) (((cfg0.win 4).blk t).view.emb (ix3 0 q k)) = _
  refine congrArg (V m c main_arg0 : Vec Ideal S8x4096x1024 .f32) (funext fun a => Fin.ext ?_)
  fin_cases a
  · show win0_4.index t (0 : Fin 3) * 1 + 1 * 0 = t.val / 4
    omega
  · show win0_4.index t (1 : Fin 3) * 1024 + 1 * q.val = 1024 * (t.val % 4) + q.val
    omega
  · show win0_4.index t (2 : Fin 3) * 1024 + 1 * k.val = k.val
    omega

/-- A column of a point's block is a stretch of the sequence's column. -/
theorem col_block (c : Dev nD) (t : Fin cfg0.N) (k : Fin 1024) (i : ℕ) (hi : i < 1024) :
    xcol (iblk m c 4 t) k i = seqCol (input m c) (seqOf t) k (1024 * (t.val % 4) + i) := by
  rw [xcol, dif_pos hi, block_4, seqCol, dif_pos (by omega)]
  rfl

/-- The triangle a point is handed. -/
theorem triangle (c : Dev nD) (t : Fin cfg0.N) (r k : Fin 64) : (iblk m c 3 t : Vec Ideal S64x64 .bf16) (ix2 r k) = if k.val < r.val then (1 : EReal) else 0 := by
  rw [block_3, Arrays.V_lower, Arrays.lower_apply]

/-- Rows summed up to a block, then into it. -/
theorem sum_stretch (g : ℕ → EReal) (a q : ℕ) :
    (∑ i ∈ Finset.range a, g i) + ∑ i ∈ Finset.range q, g (a + i) = ∑ i ∈ Finset.range (a + q), g i :=
  (Finset.sum_range_add g a q).symm

/-- A point's own stretch of a column, and of its squares. -/
theorem own_sum (c : Dev nD) (t : Fin cfg0.N) (k : Fin 1024) (q : ℕ) (hq : q ≤ 1024) :
    (∑ i ∈ Finset.range q, xcol (iblk m c 4 t) k i) = ∑ i ∈ Finset.range q, seqCol (input m c) (seqOf t) k (1024 * (t.val % 4) + i) :=
  Finset.sum_congr rfl fun i hi => col_block m c t k i (by have := Finset.mem_range.mp hi; omega)

/-- A point's own stretch of the squares of a column. -/
theorem own_sq (c : Dev nD) (t : Fin cfg0.N) (k : Fin 1024) (q : ℕ) (hq : q ≤ 1024) :
    (∑ i ∈ Finset.range q, xcol (iblk m c 4 t) k i * xcol (iblk m c 4 t) k i)
      = ∑ i ∈ Finset.range q, seqCol (input m c) (seqOf t) k (1024 * (t.val % 4) + i) * seqCol (input m c) (seqOf t) k (1024 * (t.val % 4) + i) :=
  Finset.sum_congr rfl fun i hi => by rw [col_block m c t k i (by have := Finset.mem_range.mp hi; omega)]

/-- What a point is handed on: zero rows at the first row block of a sequence, else what the point before left. -/
def handed (c : Dev nD) (t : Fin cfg0.N) : FVec Ideal S1x1024 .f32 × FVec Ideal S1x1024 .f32 :=
  if t.val % 4 = 0 then (k0_pay2, k0_pay3)
  else ((outsAt0 m c (t.val - 1) (Nat.lt_of_le_of_lt (Nat.sub_le _ _) t.isLt)).2.1, (outsAt0 m c (t.val - 1) (Nat.lt_of_le_of_lt (Nat.sub_le _ _) t.isLt)).2.2)

/-- What a point leaves: its tile and the two carried rows. -/
theorem left_eq (c : Dev nD) (t : Fin cfg0.N) :
    outsAt0 m c t.val t.isLt = (tile (BitVec.ofNat 32 (t.val % 4)) (iblk m c 0 t) (iblk m c 1 t) (iblk m c 2 t) (iblk m c 3 t) (iblk m c 4 t) (handed m c t).1 (handed m c t).2,
      sumNext (iblk m c 4 t) (iblk m c 3 t) (handed m c t).1, sqNext (iblk m c 4 t) (iblk m c 3 t) (handed m c t).2) := by
  unfold handed
  by_cases h : t.val % 4 = 0
  · rw [outsAt0_A m c t h, if_pos h, tile_A, sum_A, sq_A, coord_one]
  · rw [outsAt0_B m c t h, if_neg h, tile_B, sum_B, sq_B, coord_one]

/-- The carried rows a point is handed are the sums over the rows of its sequence before its block. -/
theorem handed_eq (c : Dev nD) (n : ℕ) : ∀ (hn : n < cfg0.N) (k : Fin 1024),
    (handed m c ⟨n, hn⟩).1 (ix2 0 k) = (∑ i ∈ Finset.range (1024 * (n % 4)), seqCol (input m c) (seqOf ⟨n, hn⟩) k i)
    ∧ (handed m c ⟨n, hn⟩).2 (ix2 0 k) = ∑ i ∈ Finset.range (1024 * (n % 4)), seqCol (input m c) (seqOf ⟨n, hn⟩) k i * seqCol (input m c) (seqOf ⟨n, hn⟩) k i := by
  induction n with
  | zero =>
    intro hn k
    unfold handed
    rw [if_pos (Nat.zero_mod 4)]
    exact ⟨pay2_apply k, pay3_apply k⟩
  | succ n ih =>
    intro hn k
    by_cases h : (n + 1) % 4 = 0
    · unfold handed
      rw [if_pos h]
      simp only [h]
      exact ⟨pay2_apply k, pay3_apply k⟩
    · have hn' : n < cfg0.N := Nat.lt_of_succ_lt hn
      have e : handed m c ⟨n + 1, hn⟩ = ((outsAt0 m c n hn').2.1, (outsAt0 m c n hn').2.2) := if_neg h
      have es : seqOf ⟨n + 1, hn⟩ = seqOf ⟨n, hn'⟩ := Fin.ext (by show (n + 1) / 4 = n / 4; omega)
      have er : 1024 * ((n + 1) % 4) = 1024 * (n % 4) + 1024 := by omega
      obtain ⟨i1, i2⟩ := ih hn' k
      have l := left_eq m c ⟨n, hn'⟩
      rw [e, es, er]
      dsimp only at l ⊢
      rw [l]
      dsimp only
      rw [sumNext_apply _ _ _ (triangle m c _), sqNext_apply _ _ _ (triangle m c _), own_sum m c _ k 1024 le_rfl, own_sq m c _ k 1024 le_rfl, i1, i2]
      exact ⟨sum_stretch _ _ _, sum_stretch (fun i => seqCol (input m c) (seqOf ⟨n, hn'⟩) k i * seqCol (input m c) (seqOf ⟨n, hn'⟩) k i) _ _⟩

/-- What the tile of a point holds at row `q` and column `k`: the kernel's entry over the rows of the sequence before. -/
theorem left_apply (c : Dev nD) (t : Fin cfg0.N) (q k : Fin 1024) :
    (outsAt0 m c t.val t.isLt).1 (ix3 0 q k) = Cert.ReferenceIdeal.Parts.result (input m c) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) (m (c.tc.loc main_arg9))
      (m (c.tc.loc main_arg10)) (m (c.tc.loc main_arg11)) (m (c.tc.loc main_arg12)) (m (c.tc.loc main_arg13)) (ix3 (seqOf t) (rowOf t q) k) := by
  have hj : t.val % 4 < 4 := Nat.mod_lt _ (by decide)
  obtain ⟨c0, c1, c2, c3, c4, c5, c6, c7⟩ := Arrays.scalars_apply (m (c.tc.loc main_arg6)) (m (c.tc.loc main_arg7)) (m (c.tc.loc main_arg8)) (m (c.tc.loc main_arg9))
    (m (c.tc.loc main_arg10)) (m (c.tc.loc main_arg11)) (m (c.tc.loc main_arg12)) (m (c.tc.loc main_arg13))
  have hrow (l : Fin 1024) := Arrays.stats_apply (m (c.tc.loc main_arg1)) (m (c.tc.loc main_arg2)) (m (c.tc.loc main_arg3)) (m (c.tc.loc main_arg4)) (m (c.tc.loc main_arg5)) l
  have hx (l : Fin 1024) := block_4 m c t q l
  have r0 (l : Fin 1024) : (iblk m c 1 t : Vec Ideal S5x1024 .f32) (ix2 0 l) = m (c.tc.loc main_arg1) (ix1 l) := by rw [block_1, Arrays.V_stats, (hrow l).1]
  have r1 (l : Fin 1024) : (iblk m c 1 t : Vec Ideal S5x1024 .f32) (ix2 1 l) = m (c.tc.loc main_arg2) (ix1 l) := by rw [block_1, Arrays.V_stats, (hrow l).2.1]
  have r2 (l : Fin 1024) : (iblk m c 1 t : Vec Ideal S5x1024 .f32) (ix2 2 l) = m (c.tc.loc main_arg3) (ix1 l) := by rw [block_1, Arrays.V_stats, (hrow l).2.2.1]
  have r3 (l : Fin 1024) : (iblk m c 1 t : Vec Ideal S5x1024 .f32) (ix2 3 l) = m (c.tc.loc main_arg4) (ix1 l) := by rw [block_1, Arrays.V_stats, (hrow l).2.2.2.1]
  have r4 (l : Fin 1024) : (iblk m c 1 t : Vec Ideal S5x1024 .f32) (ix2 4 l) = m (c.tc.loc main_arg5) (ix1 l) := by rw [block_1, Arrays.V_stats, (hrow l).2.2.2.2]
  have hs (i : Fin 8) := (block_0 m c t i).trans (congrFun (Arrays.V_scalars m c) (ix1 i))
  have hpair (l : Fin 1024) := Arrays.pair_apply (m (c.tc.loc main_arg3)) l
  have hone (l : Fin 1024) : (iblk m c 2 t : Vec Ideal S1024x2 .bf16) (ix2 l 0) = (1 : EReal) := by
    rw [block_2, Arrays.V_pair, (hpair l).1]
  have hdir (l : Fin 1024) : (iblk m c 2 t : Vec Ideal S1024x2 .bf16) (ix2 l 1) = (iblk m c 1 t : Vec Ideal S5x1024 .f32) (ix2 2 l) := by
    rw [block_2, Arrays.V_pair, (hpair l).2, r2]
  rw [left_eq]
  dsimp only
  rw [tile_apply _ hj _ _ _ _ _ _ _ (triangle m c t) hone hdir, Cert.ReferenceIdeal.Parts.result_apply]
  have hmask : (if 1024 * (t.val % 4) + q.val = 0 then (0 : EReal) else 1) = if (rowOf t q).val = 0 then 0 else 1 := rfl
  have hpos : (0 : ℝ) < ((max (1024 * (t.val % 4) + q.val) 1 : ℕ) : ℝ) := by
    rw [Nat.cast_pos]
    omega
  have hval : 1024 * (t.val % 4) + q.val = (rowOf t q).val := rfl
  rw [hmask, Cert.Entry.entry_eq _ _ _ hpos, hval]
  have hp (l : Fin 1024) : (handed m c t).1 (ix2 0 l) + ∑ i ∈ Finset.range q.val, xcol (iblk m c 4 t) l i = ∑ i ∈ Finset.range (rowOf t q).val, seqCol (input m c) (seqOf t) l i := by
    rw [(handed_eq m c t.val t.isLt l).1, own_sum m c t l q.val (by omega)]
    exact sum_stretch _ _ _
  have hq (l : Fin 1024) : (handed m c t).2 (ix2 0 l) + ∑ i ∈ Finset.range q.val, xcol (iblk m c 4 t) l i * xcol (iblk m c 4 t) l i
      = ∑ i ∈ Finset.range (rowOf t q).val, seqCol (input m c) (seqOf t) l i * seqCol (input m c) (seqOf t) l i := by
    rw [(handed_eq m c t.val t.isLt l).2, own_sq m c t l q.val (by omega)]
    exact sum_stretch (fun i => seqCol (input m c) (seqOf t) l i * seqCol (input m c) (seqOf t) l i) _ _
  rw [funext hp, funext hq, funext hx, funext r0, funext r1, funext r2, funext r3, funext r4, (hs 0).trans c0, (hs 1).trans c1, (hs 2).trans c2, (hs 3).trans c3,
    (hs 4).trans c4, (hs 5).trans c5, (hs 6).trans c6, (hs 7).trans c7]

/-- The output array ends holding the reference's result. -/
theorem array_eq (c : Dev nD) :
    Cert.KernelIdeal.Value.G5 m c = Cert.ReferenceIdeal.Parts.result (input m c) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) (m (c.tc.loc main_arg9))
      (m (c.tc.loc main_arg10)) (m (c.tc.loc main_arg11)) (m (c.tc.loc main_arg12)) (m (c.tc.loc main_arg13)) := by
  funext i
  have h0 : (i 0).val < 8 := (i 0).isLt
  have h1 : (i 1).val < 4096 := (i 1).isLt
  have h2 : (i 2).val < 1024 := (i 2).isLt
  have hpt : Cert.KernelIdeal.Value.pt5Of i = 4 * (i 0).val + (i 1).val / 1024 := by
    show 4 * ((i 0).val / 1 - 0) + 1 * ((i 1).val / 1024 - 0) + 1 * ((i 2).val / 1024 - 0) = _
    omega
  have ht : Cert.KernelIdeal.Value.pt5Of i < cfg0.N := lt_of_lt_of_eq (by rw [hpt]; omega) N_0.symm
  have hloc : Cert.KernelIdeal.Value.loc5Of i = ix3 0 ⟨(i 1).val % 1024, Nat.mod_lt _ (by decide)⟩ ⟨(i 2).val, h2⟩ := by
    funext a
    apply Fin.ext
    fin_cases a
    · show (i 0).val % 1 = 0
      omega
    · rfl
    · show (i 2).val % 1024 = (i 2).val
      omega
  have hidx : i = ix3 (seqOf ⟨_, ht⟩) (rowOf ⟨_, ht⟩ ⟨(i 1).val % 1024, Nat.mod_lt _ (by decide)⟩) ⟨(i 2).val, h2⟩ := by
    funext a
    apply Fin.ext
    fin_cases a
    · show (i 0).val = Cert.KernelIdeal.Value.pt5Of i / 4
      omega
    · show (i 1).val = 1024 * (Cert.KernelIdeal.Value.pt5Of i % 4) + (i 1).val % 1024
      omega
    · rfl
  unfold Cert.KernelIdeal.Value.G5
  rw [dif_pos ht, ← Cert.KernelIdeal.Value.outsAt0_sweep m c _ ht, hloc]
  refine (left_apply m c ⟨_, ht⟩ _ _).trans ?_
  rw [← hidx]

end Cert.KernelIdeal.Fold

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Fold
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference runs to completion, its arguments unchanged and its counters zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three named constants of the kernel are what their names stand for. -/
theorem preserves_Kernel_KernelIdeal : preserves_Kernel_KernelIdeal :=
  ⟨IdealRules.named_const.statement Cert.KernelIdeal.κ "gelu_cubic" .bf16 0x3D37#16 ((12003091 / 268435456 : ℝ) : EReal) rfl,
   IdealRules.named_const.statement Cert.KernelIdeal.κ "gelu_scale" .bf16 0x3F4C#16 ((6693141 / 8388608 : ℝ) : EReal) rfl,
   IdealRules.named_const.statement Cert.KernelIdeal.κ "norm_floor_sq" .f32 0x179ABE15#32
     ((5316911940649 / 5316911983139663491615228241121378304 : ℝ) : EReal) rfl⟩

/-- Over the extended reals the kernel and the reference end with the same array, whatever the arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5, e6, e7, e8, e9, e10, e11, e12, e13⟩ := hagree c
  rw [(h c).1, Cert.KernelIdeal.Fold.array_eq]
  unfold Cert.KernelIdeal.Fold.input
  rw [← e0, ← e1, ← e2, ← e3, ← e4, ← e5, ← e6, ← e7, ← e8, ← e9, ← e10, ← e11, ← e12, ← e13]
  rfl

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, preserves_Kernel_KernelIdeal,
  algebraic_KernelIdeal_ReferenceIdeal⟩

end Cert.Proof

end
